-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_in_range [hPre_in_range : Cert.Pre_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_in_range [hPre_in_range : Cert.Pre_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Kernel2Ideal_pre_in_range [hKernel2Ideal : Cert.Kernel2Ideal.Facts] [hPre_in_range : Cert.Pre_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_in_range m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Reference2Ideal_pre_in_range [hReference2Ideal : Cert.Reference2Ideal.Facts] [hPre_in_range : Cert.Pre_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal_pre_in_range [hKernel2Ideal : Cert.Kernel2Ideal.Facts] [hReference2Ideal : Cert.Reference2Ideal.Facts] [hPre_in_range : Cert.Pre_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_in_range m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v19)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v19) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v77) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_in_range : Cert.Pre_in_range.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_in_range (hKernel2Ideal := hKernel2Ideal) (hPre_in_range := hPre_in_range)
    ∧ quiescent_Reference2Ideal (hReference2Ideal := hReference2Ideal)
    ∧ quiescent_Reference2Ideal_pre_in_range (hReference2Ideal := hReference2Ideal) (hPre_in_range := hPre_in_range)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_in_range (hKernel2Ideal := hKernel2Ideal) (hReference2Ideal := hReference2Ideal) (hPre_in_range := hPre_in_range)
-- ==== Pre_in_range.lean ====
abbrev S512x128x128 : Shape := ⟨3, ![512, 128, 128]⟩
abbrev S128x512 : Shape := ⟨2, ![128, 512]⟩
abbrev S17x256 : Shape := ⟨2, ![17, 256]⟩
abbrev S17 : Shape := ⟨1, ![17]⟩
abbrev S17x17 : Shape := ⟨2, ![17, 17]⟩
abbrev S_ : Shape := ⟨0, ![]⟩

class Facts : Prop where
  bcast_S_S128x512 : S_.BroadcastsInDim S128x512 (![] : Fin 0 → Fin S128x512.rank)
  reducesTo_S128x512_S_d0_1 : S128x512.ReducesTo [0, 1] S_
  h_S_ : 0 < S_.numel
  bitsLt_bf16_f32 : FTy.bits .bf16 < FTy.bits .f32
  bcast_S_S512x128x128 : S_.BroadcastsInDim S512x128x128 (![] : Fin 0 → Fin S512x128x128.rank)
  reducesTo_S512x128x128_S_d0_1_2 : S512x128x128.ReducesTo [0, 1, 2] S_
  bcast_S_S17x256 : S_.BroadcastsInDim S17x256 (![] : Fin 0 → Fin S17x256.rank)
  reducesTo_S17x256_S_d0_1 : S17x256.ReducesTo [0, 1] S_
  bcast_S_S17 : S_.BroadcastsInDim S17 (![] : Fin 0 → Fin S17.rank)
  reducesTo_S17_S_d0 : S17.ReducesTo [0] S_
  bcast_S_S17x17 : S_.BroadcastsInDim S17x17 (![] : Fin 0 → Fin S17x17.rank)
  reducesTo_S17x17_S_d0_1 : S17x17.ReducesTo [0, 1] S_

variable [Facts]

def fn_part2 {F : FTy → Type} [FloatOps F] (main_arg7 : FVec F S17 .f32) (main_arg8 : FVec F S17x17 .f32) (main_v29 : IVec S_ 1) (main_v33 : IVec S_ 1) : IVec S_ 1 :=
  let main_v34 : IVec S_ 1 := andi main_v29 main_v33
  let main_v35 : FVec F S17 .f32 := Host.absf main_arg7
  let main_cst_12 : FVec F S_ .f32 := constant S_ .f32 0x7F800000#32
  let main_v36 : FVec F S17 .f32 := broadcastInDim S17 ![] bcast_S_S17 main_cst_12
  let main_v37 : IVec S17 1 := cmpf .olt main_v35 main_v36
  let main_c_13 : IVec S_ 1 := constantI S_ 1 1#1
  let main_v38 : IVec S_ 1 := (fun x v => Host.reduce IntOp.andi x v reducesTo_S17_S_d0 h_S_) main_v37 main_c_13
  let main_v39 : IVec S_ 1 := andi main_v34 main_v38
  let main_v40 : FVec F S17x17 .f32 := Host.absf main_arg8
  let main_cst_14 : FVec F S_ .f32 := constant S_ .f32 0x7F800000#32
  let main_v41 : FVec F S17x17 .f32 := broadcastInDim S17x17 ![] bcast_S_S17x17 main_cst_14
  let main_v42 : IVec S17x17 1 := cmpf .olt main_v40 main_v41
  let main_c_15 : IVec S_ 1 := constantI S_ 1 1#1
  let main_v43 : IVec S_ 1 := (fun x v => Host.reduce IntOp.andi x v reducesTo_S17x17_S_d0_1 h_S_) main_v42 main_c_15
  let main_v44 : IVec S_ 1 := andi main_v39 main_v43
  main_v44

def fn_part1 {F : FTy → Type} [FloatOps F] (main_arg4 : FVec F S17x256 .f32) (main_arg5 : FVec F S17 .f32) (main_arg6 : FVec F S17 .f32) (main_arg7 : FVec F S17 .f32) (main_arg8 : FVec F S17x17 .f32) (main_v13 : IVec S_ 1) (main_v15 : FVec F S512x128x128 .f32) (main_v16 : FVec F S512x128x128 .f32) : IVec S_ 1 :=
  let main_v17 : IVec S512x128x128 1 := cmpf .olt main_v15 main_v16
  let main_c_5 : IVec S_ 1 := constantI S_ 1 1#1
  let main_v18 : IVec S_ 1 := (fun x v => Host.reduce IntOp.andi x v reducesTo_S512x128x128_S_d0_1_2 h_S_) main_v17 main_c_5
  let main_v19 : IVec S_ 1 := andi main_v13 main_v18
  let main_v20 : FVec F S17x256 .f32 := Host.absf main_arg4
  let main_cst_6 : FVec F S_ .f32 := constant S_ .f32 0x7F800000#32
  let main_v21 : FVec F S17x256 .f32 := broadcastInDim S17x256 ![] bcast_S_S17x256 main_cst_6
  let main_v22 : IVec S17x256 1 := cmpf .olt main_v20 main_v21
  let main_c_7 : IVec S_ 1 := constantI S_ 1 1#1
  let main_v23 : IVec S_ 1 := (fun x v => Host.reduce IntOp.andi x v reducesTo_S17x256_S_d0_1 h_S_) main_v22 main_c_7
  let main_v24 : IVec S_ 1 := andi main_v19 main_v23
  let main_v25 : FVec F S17 .f32 := Host.absf main_arg5
  let main_cst_8 : FVec F S_ .f32 := constant S_ .f32 0x7F800000#32
  let main_v26 : FVec F S17 .f32 := broadcastInDim S17 ![] bcast_S_S17 main_cst_8
  let main_v27 : IVec S17 1 := cmpf .olt main_v25 main_v26
  let main_c_9 : IVec S_ 1 := constantI S_ 1 1#1
  let main_v28 : IVec S_ 1 := (fun x v => Host.reduce IntOp.andi x v reducesTo_S17_S_d0 h_S_) main_v27 main_c_9
  let main_v29 : IVec S_ 1 := andi main_v24 main_v28
  let main_v30 : FVec F S17 .f32 := Host.absf main_arg6
  let main_cst_10 : FVec F S_ .f32 := constant S_ .f32 0x7F800000#32
  let main_v31 : FVec F S17 .f32 := broadcastInDim S17 ![] bcast_S_S17 main_cst_10
  let main_v32 : IVec S17 1 := cmpf .olt main_v30 main_v31
  let main_c_11 : IVec S_ 1 := constantI S_ 1 1#1
  let main_v33 : IVec S_ 1 := (fun x v => Host.reduce IntOp.andi x v reducesTo_S17_S_d0 h_S_) main_v32 main_c_11
  fn_part2 (F := F) main_arg7 main_arg8 main_v29 main_v33

def fn {F : FTy → Type} [FloatOps F] (main_arg0 : FVec F S512x128x128 .bf16) (main_arg1 : FVec F S512x128x128 .bf16) (main_arg2 : IVec S128x512 32) (main_arg3 : IVec S128x512 1) (main_arg4 : FVec F S17x256 .f32) (main_arg5 : FVec F S17 .f32) (main_arg6 : FVec F S17 .f32) (main_arg7 : FVec F S17 .f32) (main_arg8 : FVec F S17x17 .f32) : IVec S_ 1 :=
  let main_c : IVec S_ 32 := constantI S_ 32 0#32
  let main_v0 : IVec S128x512 32 := broadcastInDim S128x512 ![] bcast_S_S128x512 main_c
  let main_v1 : IVec S128x512 1 := cmpi .sge main_arg2 main_v0
  let main_c_0 : IVec S_ 32 := constantI S_ 32 17#32
  let main_v2 : IVec S128x512 32 := broadcastInDim S128x512 ![] bcast_S_S128x512 main_c_0
  let main_v3 : IVec S128x512 1 := cmpi .slt main_arg2 main_v2
  let main_v4 : IVec S128x512 1 := andi main_v1 main_v3
  let main_c_1 : IVec S_ 1 := constantI S_ 1 1#1
  let main_v5 : IVec S_ 1 := (fun x v => Host.reduce IntOp.andi x v reducesTo_S128x512_S_d0_1 h_S_) main_v4 main_c_1
  let main_c_2 : IVec S_ 1 := constantI S_ 1 1#1
  let main_v6 : IVec S_ 1 := (fun x v => Host.reduce IntOp.andi x v reducesTo_S128x512_S_d0_1 h_S_) main_arg3 main_c_2
  let main_v7 : IVec S_ 1 := andi main_v5 main_v6
  let main_v8 : FVec F S512x128x128 .f32 := (extf .f32 · bitsLt_bf16_f32) main_arg0
  let main_v9 : FVec F S512x128x128 .f32 := Host.absf main_v8
  let main_cst : FVec F S_ .f32 := constant S_ .f32 0x7F800000#32
  let main_v10 : FVec F S512x128x128 .f32 := broadcastInDim S512x128x128 ![] bcast_S_S512x128x128 main_cst
  let main_v11 : IVec S512x128x128 1 := cmpf .olt main_v9 main_v10
  let main_c_3 : IVec S_ 1 := constantI S_ 1 1#1
  let main_v12 : IVec S_ 1 := (fun x v => Host.reduce IntOp.andi x v reducesTo_S512x128x128_S_d0_1_2 h_S_) main_v11 main_c_3
  let main_v13 : IVec S_ 1 := andi main_v7 main_v12
  let main_v14 : FVec F S512x128x128 .f32 := (extf .f32 · bitsLt_bf16_f32) main_arg1
  let main_v15 : FVec F S512x128x128 .f32 := Host.absf main_v14
  let main_cst_4 : FVec F S_ .f32 := constant S_ .f32 0x7F800000#32
  let main_v16 : FVec F S512x128x128 .f32 := broadcastInDim S512x128x128 ![] bcast_S_S512x128x128 main_cst_4
  fn_part1 (F := F) main_arg4 main_arg5 main_arg6 main_arg7 main_arg8 main_v13 main_v15 main_v16
-- ==== Kernel.lean ====
abbrev S512x128x128 : Shape := ⟨3, ![512, 128, 128]⟩
abbrev S512x128 : Shape := ⟨2, ![512, 128]⟩
abbrev S512 : Shape := ⟨1, ![512]⟩
abbrev S1x512 : Shape := ⟨2, ![1, 512]⟩
abbrev S128x512 : Shape := ⟨2, ![128, 512]⟩
abbrev S256x512 : Shape := ⟨2, ![256, 512]⟩
abbrev S32x128x128 : Shape := ⟨3, ![32, 128, 128]⟩
abbrev S128x128 : Shape := ⟨2, ![128, 128]⟩
abbrev S1x128x128 : Shape := ⟨3, ![1, 128, 128]⟩
abbrev S128x256 : Shape := ⟨2, ![128, 256]⟩

abbrev nBuf : Space → Nat
  | .hbm => 21
  | .vmem => 16
  | .smem => 0
  | _ => 0

abbrev bufTy : (tb : Table) → Fin (tcTables nBuf tb) → BufTy
  | .hbm, ⟨0, _⟩ => ⟨S512x128x128, .f32⟩
  | .hbm, ⟨1, _⟩ => ⟨S512x128, .f32⟩
  | .hbm, ⟨2, _⟩ => ⟨S512x128, .f32⟩
  | .hbm, ⟨3, _⟩ => ⟨S512, .f32⟩
  | .hbm, ⟨4, _⟩ => ⟨S512, .f32⟩
  | .hbm, ⟨5, _⟩ => ⟨S512x128, .f32⟩
  | .hbm, ⟨6, _⟩ => ⟨S512x128, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S1x512, .f32⟩
  | .hbm, ⟨11, _⟩ => ⟨S512, .f32⟩
  | .hbm, ⟨12, _⟩ => ⟨S1x512, .f32⟩
  | .hbm, ⟨13, _⟩ => ⟨S128x512, .f32⟩
  | .hbm, ⟨14, _⟩ => ⟨S128x512, .f32⟩
  | .hbm, ⟨15, _⟩ => ⟨S256x512, .f32⟩
  | .hbm, ⟨16, _⟩ => ⟨S128x512, .f32⟩
  | .hbm, ⟨17, _⟩ => ⟨S128x512, .f32⟩
  | .hbm, ⟨18, _⟩ => ⟨S256x512, .f32⟩
  | .hbm, ⟨19, _⟩ => ⟨S512x128x128, .bf16⟩
  | .hbm, ⟨20, _⟩ => ⟨S512x128x128, .bf16⟩
  | .local _ .vmem, ⟨0, _⟩ => ⟨S32x128x128, .f32⟩
  | .local _ .vmem, ⟨1, _⟩ => ⟨S32x128x128, .f32⟩
  | .local _ .vmem, ⟨2, _⟩ => ⟨S32x128x128, .f32⟩
  | .local _ .vmem, ⟨3, _⟩ => ⟨S32x128x128, .f32⟩
  | .local _ .vmem, ⟨4, _⟩ => ⟨S256x512, .f32⟩
  | .local _ .vmem, ⟨5, _⟩ => ⟨S256x512, .f32⟩
  | .local _ .vmem, ⟨6, _⟩ => ⟨S1x512, .f32⟩
  | .local _ .vmem, ⟨7, _⟩ => ⟨S1x512, .f32⟩
  | .local _ .vmem, ⟨8, _⟩ => ⟨S32x128x128, .bf16⟩
  | .local _ .vmem, ⟨9, _⟩ => ⟨S32x128x128, .bf16⟩
  | .local _ .vmem, ⟨10, _⟩ => ⟨S32x128x128, .bf16⟩
  | .local _ .vmem, ⟨11, _⟩ => ⟨S32x128x128, .bf16⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | _, _ => ⟨S512x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S32x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S512x128x128 : Shape := ⟨3, ![512, 128, 128]⟩
abbrev S512x128 : Shape := ⟨2, ![512, 128]⟩
abbrev S512 : Shape := ⟨1, ![512]⟩
abbrev S512x128x512 : Shape := ⟨3, ![512, 128, 512]⟩
abbrev S1x1x512 : Shape := ⟨3, ![1, 1, 512]⟩
abbrev S_ : Shape := ⟨0, ![]⟩
abbrev S128x128 : Shape := ⟨2, ![128, 128]⟩
abbrev S1x128x512 : Shape := ⟨3, ![1, 128, 512]⟩
abbrev S128x512 : Shape := ⟨2, ![128, 512]⟩
abbrev S1x128x128 : Shape := ⟨3, ![1, 128, 128]⟩

abbrev nBuf : Space → Nat
  | .hbm => 139
  | .vmem => 0
  | .smem => 0
  | _ => 0

abbrev hbmTy0_0 (i : Nat) : BufTy := match i % 128 with
  | 0 => ⟨S512x128x128, .f32⟩
  | 1 => ⟨S512x128, .f32⟩
  | 2 => ⟨S512x128, .f32⟩
  | 3 => ⟨S512, .f32⟩
  | 4 => ⟨S512, .f32⟩
  | 5 => ⟨S512x128, .f32⟩
  | 6 => ⟨S512x128, .f32⟩
  | 7 => ⟨S512, .f32⟩
  | 8 => ⟨S512, .f32⟩
  | 9 => ⟨S512x128x512, .f32⟩
  | 10 => ⟨S1x1x512, .f32⟩
  | 11 => ⟨S512x128x512, .f32⟩
  | 12 => ⟨S512x128x512, .f32⟩
  | 13 => ⟨S1x1x512, .f32⟩
  | 14 => ⟨S512x128x512, .f32⟩
  | 15 => ⟨S512x128x512, .f32⟩
  | 16 => ⟨S512x128x128, .f32⟩
  | 17 => ⟨S512x128x512, .f32⟩
  | 18 => ⟨S1x1x512, .f32⟩
  | 19 => ⟨S512x128x512, .f32⟩
  | 20 => ⟨S512x128x512, .f32⟩
  | 21 => ⟨S1x1x512, .f32⟩
  | 22 => ⟨S512x128x512, .f32⟩
  | 23 => ⟨S512x128x512, .f32⟩
  | 24 => ⟨S_, .f32⟩
  | 25 => ⟨S128x128, .f32⟩
  | 26 => ⟨S_, .f32⟩
  | 27 => ⟨S512x128x128, .f32⟩
  | 28 => ⟨S_, .f32⟩
  | 29 => ⟨S512x128x128, .f32⟩
  | 30 => ⟨S_, .i32⟩
  | 31 => ⟨S512x128x512, .f32⟩
  | 32 => ⟨S512x128x512, .f32⟩
  | 33 => ⟨S512x128, .f32⟩
  | 34 => ⟨S512x128, .f32⟩
  | 35 => ⟨S_, .i32⟩
  | 36 => ⟨S128x128, .f32⟩
  | 37 => ⟨S128x128, .f32⟩
  | 38 => ⟨S128x128, .f32⟩
  | 39 => ⟨S128x128, .f32⟩
  | 40 => ⟨S512x128x128, .f32⟩
  | 41 => ⟨S512x128x128, .f32⟩
  | 42 => ⟨S_, .i32⟩
  | 43 => ⟨S_, .i1⟩
  | 44 => ⟨S_, .i32⟩
  | 45 => ⟨S_, .i32⟩
  | 46 => ⟨S1x128x512, .f32⟩
  | 47 => ⟨S128x512, .f32⟩
  | 48 => ⟨S_, .i32⟩
  | 49 => ⟨S_, .i32⟩
  | 50 => ⟨S1x128x512, .f32⟩
  | 51 => ⟨S128x512, .f32⟩
  | 52 => ⟨S128x512, .f32⟩
  | 53 => ⟨S128x512, .f32⟩
  | 54 => ⟨S128x512, .f32⟩
  | 55 => ⟨S128x128, .f32⟩
  | 56 => ⟨S128x128, .f32⟩
  | 57 => ⟨S128x128, .f32⟩
  | 58 => ⟨S128x128, .f32⟩
  | 59 => ⟨S128x128, .f32⟩
  | 60 => ⟨S128x128, .f32⟩
  | 61 => ⟨S_, .f32⟩
  | 62 => ⟨S128x128, .f32⟩
  | 63 => ⟨S128x128, .f32⟩
  | 64 => ⟨S_, .f32⟩
  | 65 => ⟨S128x128, .f32⟩
  | 66 => ⟨S128x128, .f32⟩
  | 67 => ⟨S128x128, .f32⟩
  | 68 => ⟨S128x128, .f32⟩
  | 69 => ⟨S128x128, .f32⟩
  | 70 => ⟨S_, .f32⟩
  | 71 => ⟨S128x128, .f32⟩
  | 72 => ⟨S128x128, .f32⟩
  | 73 => ⟨S_, .f32⟩
  | 74 => ⟨S128x128, .f32⟩
  | 75 => ⟨S128x128, .f32⟩
  | 76 => ⟨S128x128, .f32⟩
  | 77 => ⟨S128x128, .f32⟩
  | 78 => ⟨S128x128, .f32⟩
  | 79 => ⟨S128x128, .f32⟩
  | 80 => ⟨S128x128, .f32⟩
  | 81 => ⟨S_, .f32⟩
  | 82 => ⟨S128x128, .f32⟩
  | 83 => ⟨S128x128, .f32⟩
  | 84 => ⟨S_, .f32⟩
  | 85 => ⟨S128x128, .f32⟩
  | 86 => ⟨S128x128, .f32⟩
  | 87 => ⟨S128x128, .f32⟩
  | 88 => ⟨S128x128, .f32⟩
  | 89 => ⟨S128x512, .f32⟩
  | 90 => ⟨S128x512, .f32⟩
  | 91 => ⟨S128x512, .f32⟩
  | 92 => ⟨S128x128, .f32⟩
  | 93 => ⟨S128x128, .f32⟩
  | 94 => ⟨S128x128, .f32⟩
  | 95 => ⟨S128x128, .f32⟩
  | 96 => ⟨S128x128, .f32⟩
  | 97 => ⟨S128x128, .f32⟩
  | 98 => ⟨S_, .f32⟩
  | 99 => ⟨S128x128, .f32⟩
  | 100 => ⟨S128x128, .f32⟩
  | 101 => ⟨S_, .f32⟩
  | 102 => ⟨S128x128, .f32⟩
  | 103 => ⟨S128x128, .f32⟩
  | 104 => ⟨S128x128, .f32⟩
  | 105 => ⟨S128x128, .f32⟩
  | 106 => ⟨S128x128, .f32⟩
  | 107 => ⟨S_, .f32⟩
  | 108 => ⟨S128x128, .f32⟩
  | 109 => ⟨S128x128, .f32⟩
  | 110 => ⟨S_, .f32⟩
  | 111 => ⟨S128x128, .f32⟩
  | 112 => ⟨S128x128, .f32⟩
  | 113 => ⟨S128x128, .f32⟩
  | 114 => ⟨S128x128, .f32⟩
  | 115 => ⟨S128x128, .f32⟩
  | 116 => ⟨S128x128, .f32⟩
  | 117 => ⟨S128x128, .f32⟩
  | 118 => ⟨S_, .f32⟩
  | 119 => ⟨S128x128, .f32⟩
  | 120 => ⟨S128x128, .f32⟩
  | 121 => ⟨S_, .f32⟩
  | 122 => ⟨S128x128, .f32⟩
  | 123 => ⟨S128x128, .f32⟩
  | 124 => ⟨S128x128, .f32⟩
  | 125 => ⟨S128x128, .f32⟩
  | 126 => ⟨S1x128x128, .f32⟩
  | 127 => ⟨S_, .i32⟩
  | _ => ⟨S512x128x128, .f32⟩

abbrev hbmTy0_1 (i : Nat) : BufTy := match i % 128 with
  | 0 => ⟨S_, .i32⟩
  | 1 => ⟨S512x128x128, .f32⟩
  | 2 => ⟨S1x128x128, .f32⟩
  | 3 => ⟨S_, .i32⟩
  | 4 => ⟨S_, .i32⟩
  | 5 => ⟨S512x128x128, .f32⟩
  | 6 => ⟨S_, .i32⟩
  | 7 => ⟨S_, .i32⟩
  | 8 => ⟨S512x128x128, .bf16⟩
  | 9 => ⟨S512x128x128, .f32⟩
  | 10 => ⟨S512x128x128, .bf16⟩
  | _ => ⟨S512x128x128, .f32⟩

abbrev hbmTy (i : Nat) : BufTy := match i / 128 with
  | 0 => hbmTy0_0 i
  | 1 => hbmTy0_1 i
  | _ => ⟨S512x128x128, .f32⟩

abbrev bufTy : (tb : Table) → Fin (tcTables nBuf tb) → BufTy
  | .hbm, ⟨i, _⟩ => hbmTy i
  | _, _ => ⟨S512x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_c : Ref sig .tc := ⟨.hbm, 30, rfl⟩
abbrev main_v18_0 : Ref sig .tc := ⟨.hbm, 31, rfl⟩
abbrev main_v18_1 : Ref sig .tc := ⟨.hbm, 32, rfl⟩
abbrev main_v18_2 : Ref sig .tc := ⟨.hbm, 33, rfl⟩
abbrev main_v18_3 : Ref sig .tc := ⟨.hbm, 34, rfl⟩
abbrev main_v18_4 : Ref sig .tc := ⟨.hbm, 35, rfl⟩
abbrev main_v18_5 : Ref sig .tc := ⟨.hbm, 36, rfl⟩
abbrev main_v18_6 : Ref sig .tc := ⟨.hbm, 37, rfl⟩
abbrev main_v18_7 : Ref sig .tc := ⟨.hbm, 38, rfl⟩
abbrev main_v18_8 : Ref sig .tc := ⟨.hbm, 39, rfl⟩
abbrev main_v18_9 : Ref sig .tc := ⟨.hbm, 40, rfl⟩
abbrev main_v18_10 : Ref sig .tc := ⟨.hbm, 41, rfl⟩
abbrev main_while0c_c_12 : Ref sig .tc := ⟨.hbm, 42, rfl⟩
abbrev main_while0c_v22 : Ref sig .tc := ⟨.hbm, 43, rfl⟩
abbrev main_while0b_call0_c : Ref sig .tc := ⟨.hbm, 44, rfl⟩
abbrev main_while0b_call0_c_0 : Ref sig .tc := ⟨.hbm, 45, rfl⟩
abbrev main_while0b_call0_v0 : Ref sig .tc := ⟨.hbm, 46, rfl⟩
abbrev main_while0b_v22 : Ref sig .tc := ⟨.hbm, 47, rfl⟩
abbrev main_while0b_call1_c : Ref sig .tc := ⟨.hbm, 48, rfl⟩
abbrev main_while0b_call1_c_0 : Ref sig .tc := ⟨.hbm, 49, rfl⟩
abbrev main_while0b_call1_v0 : Ref sig .tc := ⟨.hbm, 50, rfl⟩
abbrev main_while0b_v23 : Ref sig .tc := ⟨.hbm, 51, rfl⟩
abbrev main_while0b_v24 : Ref sig .tc := ⟨.hbm, 52, rfl⟩
abbrev main_while0b_v25 : Ref sig .tc := ⟨.hbm, 53, rfl⟩
abbrev main_while0b_v26 : Ref sig .tc := ⟨.hbm, 54, rfl⟩
abbrev main_while0b_v27 : Ref sig .tc := ⟨.hbm, 55, rfl⟩
abbrev main_while0b_v28 : Ref sig .tc := ⟨.hbm, 56, rfl⟩
abbrev main_while0b_v29 : Ref sig .tc := ⟨.hbm, 57, rfl⟩
abbrev main_while0b_v30 : Ref sig .tc := ⟨.hbm, 58, rfl⟩
abbrev main_while0b_v31 : Ref sig .tc := ⟨.hbm, 59, rfl⟩
abbrev main_while0b_v32 : Ref sig .tc := ⟨.hbm, 60, rfl⟩
abbrev main_while0b_cst_12 : Ref sig .tc := ⟨.hbm, 61, rfl⟩
abbrev main_while0b_v33 : Ref sig .tc := ⟨.hbm, 62, rfl⟩
abbrev main_while0b_v34 : Ref sig .tc := ⟨.hbm, 63, rfl⟩
abbrev main_while0b_cst_13 : Ref sig .tc := ⟨.hbm, 64, rfl⟩
abbrev main_while0b_v35 : Ref sig .tc := ⟨.hbm, 65, rfl⟩
abbrev main_while0b_v36 : Ref sig .tc := ⟨.hbm, 66, rfl⟩
abbrev main_while0b_v37 : Ref sig .tc := ⟨.hbm, 67, rfl⟩
abbrev main_while0b_v38 : Ref sig .tc := ⟨.hbm, 68, rfl⟩
abbrev main_while0b_v39 : Ref sig .tc := ⟨.hbm, 69, rfl⟩
abbrev main_while0b_cst_14 : Ref sig .tc := ⟨.hbm, 70, rfl⟩
abbrev main_while0b_v40 : Ref sig .tc := ⟨.hbm, 71, rfl⟩
abbrev main_while0b_v41 : Ref sig .tc := ⟨.hbm, 72, rfl⟩
abbrev main_while0b_cst_15 : Ref sig .tc := ⟨.hbm, 73, rfl⟩
abbrev main_while0b_v42 : Ref sig .tc := ⟨.hbm, 74, rfl⟩
abbrev main_while0b_v43 : Ref sig .tc := ⟨.hbm, 75, rfl⟩
abbrev main_while0b_v44 : Ref sig .tc := ⟨.hbm, 76, rfl⟩
abbrev main_while0b_v45 : Ref sig .tc := ⟨.hbm, 77, rfl⟩
abbrev main_while0b_v46 : Ref sig .tc := ⟨.hbm, 78, rfl⟩
abbrev main_while0b_v47 : Ref sig .tc := ⟨.hbm, 79, rfl⟩
abbrev main_while0b_v48 : Ref sig .tc := ⟨.hbm, 80, rfl⟩
abbrev main_while0b_cst_16 : Ref sig .tc := ⟨.hbm, 81, rfl⟩
abbrev main_while0b_v49 : Ref sig .tc := ⟨.hbm, 82, rfl⟩
abbrev main_while0b_v50 : Ref sig .tc := ⟨.hbm, 83, rfl⟩
abbrev main_while0b_cst_17 : Ref sig .tc := ⟨.hbm, 84, rfl⟩
abbrev main_while0b_v51 : Ref sig .tc := ⟨.hbm, 85, rfl⟩
abbrev main_while0b_v52 : Ref sig .tc := ⟨.hbm, 86, rfl⟩
abbrev main_while0b_v53 : Ref sig .tc := ⟨.hbm, 87, rfl⟩
abbrev main_while0b_v54 : Ref sig .tc := ⟨.hbm, 88, rfl⟩
abbrev main_while0b_v55 : Ref sig .tc := ⟨.hbm, 89, rfl⟩
abbrev main_while0b_v56 : Ref sig .tc := ⟨.hbm, 90, rfl⟩
abbrev main_while0b_v57 : Ref sig .tc := ⟨.hbm, 91, rfl⟩
abbrev main_while0b_v58 : Ref sig .tc := ⟨.hbm, 92, rfl⟩
abbrev main_while0b_v59 : Ref sig .tc := ⟨.hbm, 93, rfl⟩
abbrev main_while0b_v60 : Ref sig .tc := ⟨.hbm, 94, rfl⟩
abbrev main_while0b_v61 : Ref sig .tc := ⟨.hbm, 95, rfl⟩
abbrev main_while0b_v62 : Ref sig .tc := ⟨.hbm, 96, rfl⟩
abbrev main_while0b_v63 : Ref sig .tc := ⟨.hbm, 97, rfl⟩
abbrev main_while0b_cst_18 : Ref sig .tc := ⟨.hbm, 98, rfl⟩
abbrev main_while0b_v64 : Ref sig .tc := ⟨.hbm, 99, rfl⟩
abbrev main_while0b_v65 : Ref sig .tc := ⟨.hbm, 100, rfl⟩
abbrev main_while0b_cst_19 : Ref sig .tc := ⟨.hbm, 101, rfl⟩
abbrev main_while0b_v66 : Ref sig .tc := ⟨.hbm, 102, rfl⟩
abbrev main_while0b_v67 : Ref sig .tc := ⟨.hbm, 103, rfl⟩
abbrev main_while0b_v68 : Ref sig .tc := ⟨.hbm, 104, rfl⟩
abbrev main_while0b_v69 : Ref sig .tc := ⟨.hbm, 105, rfl⟩
abbrev main_while0b_v70 : Ref sig .tc := ⟨.hbm, 106, rfl⟩
abbrev main_while0b_cst_20 : Ref sig .tc := ⟨.hbm, 107, rfl⟩
abbrev main_while0b_v71 : Ref sig .tc := ⟨.hbm, 108, rfl⟩
abbrev main_while0b_v72 : Ref sig .tc := ⟨.hbm, 109, rfl⟩
abbrev main_while0b_cst_21 : Ref sig .tc := ⟨.hbm, 110, rfl⟩
abbrev main_while0b_v73 : Ref sig .tc := ⟨.hbm, 111, rfl⟩
abbrev main_while0b_v74 : Ref sig .tc := ⟨.hbm, 112, rfl⟩
abbrev main_while0b_v75 : Ref sig .tc := ⟨.hbm, 113, rfl⟩
abbrev main_while0b_v76 : Ref sig .tc := ⟨.hbm, 114, rfl⟩
abbrev main_while0b_v77 : Ref sig .tc := ⟨.hbm, 115, rfl⟩
abbrev main_while0b_v78 : Ref sig .tc := ⟨.hbm, 116, rfl⟩
abbrev main_while0b_v79 : Ref sig .tc := ⟨.hbm, 117, rfl⟩
abbrev main_while0b_cst_22 : Ref sig .tc := ⟨.hbm, 118, rfl⟩
abbrev main_while0b_v80 : Ref sig .tc := ⟨.hbm, 119, rfl⟩
abbrev main_while0b_v81 : Ref sig .tc := ⟨.hbm, 120, rfl⟩
abbrev main_while0b_cst_23 : Ref sig .tc := ⟨.hbm, 121, rfl⟩
abbrev main_while0b_v82 : Ref sig .tc := ⟨.hbm, 122, rfl⟩
abbrev main_while0b_v83 : Ref sig .tc := ⟨.hbm, 123, rfl⟩
abbrev main_while0b_v84 : Ref sig .tc := ⟨.hbm, 124, rfl⟩
abbrev main_while0b_v85 : Ref sig .tc := ⟨.hbm, 125, rfl⟩
abbrev main_while0b_call2_v0 : Ref sig .tc := ⟨.hbm, 126, rfl⟩
abbrev main_while0b_call2_c : Ref sig .tc := ⟨.hbm, 127, rfl⟩
abbrev main_while0b_call2_c_0 : Ref sig .tc := ⟨.hbm, 128, rfl⟩
abbrev main_while0b_v86 : Ref sig .tc := ⟨.hbm, 129, rfl⟩
abbrev main_while0b_call3_v0 : Ref sig .tc := ⟨.hbm, 130, rfl⟩
abbrev main_while0b_call3_c : Ref sig .tc := ⟨.hbm, 131, rfl⟩
abbrev main_while0b_call3_c_0 : Ref sig .tc := ⟨.hbm, 132, rfl⟩
abbrev main_while0b_v87 : Ref sig .tc := ⟨.hbm, 133, rfl⟩
abbrev main_while0b_c_24 : Ref sig .tc := ⟨.hbm, 134, rfl⟩
abbrev main_while0b_v88 : Ref sig .tc := ⟨.hbm, 135, rfl⟩
abbrev main_v19 : Ref sig .tc := ⟨.hbm, 136, rfl⟩
abbrev main_v20 : Ref sig .tc := ⟨.hbm, 137, rfl⟩
abbrev main_v21 : Ref sig .tc := ⟨.hbm, 138, rfl⟩

abbrev nD : Nat := 1
abbrev τ : Topo := Topo.v7x

variable {F : FTy → Type} [FloatOps F]

abbrev main_while0_count : Scf.Loop 32 := ⟨0#32, 512#32, 1#32⟩
-- ==== Kernel2.lean ====
abbrev S512x128x128 : Shape := ⟨3, ![512, 128, 128]⟩
abbrev S128x512 : Shape := ⟨2, ![128, 512]⟩
abbrev S17x256 : Shape := ⟨2, ![17, 256]⟩
abbrev S17 : Shape := ⟨1, ![17]⟩
abbrev S17x17 : Shape := ⟨2, ![17, 17]⟩
abbrev S128x16x32 : Shape := ⟨3, ![128, 16, 32]⟩
abbrev S16x128x32 : Shape := ⟨3, ![16, 128, 32]⟩
abbrev S_ : Shape := ⟨0, ![]⟩
abbrev S128x256 : Shape := ⟨2, ![128, 256]⟩
abbrev S256x128 : Shape := ⟨2, ![256, 128]⟩
abbrev S128 : Shape := ⟨1, ![128]⟩
abbrev S1x128 : Shape := ⟨2, ![1, 128]⟩
abbrev S128x128 : Shape := ⟨2, ![128, 128]⟩
abbrev S1x1x128 : Shape := ⟨3, ![1, 1, 128]⟩
abbrev S32x128x128 : Shape := ⟨3, ![32, 128, 128]⟩
abbrev S1x128x32 : Shape := ⟨3, ![1, 128, 32]⟩
abbrev S128x1 : Shape := ⟨2, ![128, 1]⟩
abbrev S4096x128 : Shape := ⟨2, ![4096, 128]⟩
abbrev S128x32 : Shape := ⟨2, ![128, 32]⟩
abbrev S1x128x128 : Shape := ⟨3, ![1, 128, 128]⟩
abbrev S1x128x1 : Shape := ⟨3, ![1, 128, 1]⟩
abbrev S1 : Shape := ⟨1, ![1]⟩
abbrev S1x1x1 : Shape := ⟨3, ![1, 1, 1]⟩

abbrev nBuf : Space → Nat
  | .hbm => 40
  | .vmem => 24
  | .smem => 0
  | _ => 0

abbrev bufTy : (tb : Table) → Fin (tcTables nBuf tb) → BufTy
  | .hbm, ⟨0, _⟩ => ⟨S512x128x128, .bf16⟩
  | .hbm, ⟨1, _⟩ => ⟨S512x128x128, .bf16⟩
  | .hbm, ⟨2, _⟩ => ⟨S128x512, .i32⟩
  | .hbm, ⟨3, _⟩ => ⟨S128x512, .i1⟩
  | .hbm, ⟨4, _⟩ => ⟨S17x256, .f32⟩
  | .hbm, ⟨5, _⟩ => ⟨S17, .f32⟩
  | .hbm, ⟨6, _⟩ => ⟨S17, .f32⟩
  | .hbm, ⟨7, _⟩ => ⟨S17, .f32⟩
  | .hbm, ⟨8, _⟩ => ⟨S17x17, .f32⟩
  | .hbm, ⟨9, _⟩ => ⟨S128x16x32, .i32⟩
  | .hbm, ⟨10, _⟩ => ⟨S16x128x32, .i32⟩
  | .hbm, ⟨11, _⟩ => ⟨S_, .i32⟩
  | .hbm, ⟨12, _⟩ => ⟨S_, .f32⟩
  | .hbm, ⟨13, _⟩ => ⟨S128x256, .f32⟩
  | .hbm, ⟨14, _⟩ => ⟨S256x128, .f32⟩
  | .hbm, ⟨15, _⟩ => ⟨S_, .i32⟩
  | .hbm, ⟨16, _⟩ => ⟨S_, .f32⟩
  | .hbm, ⟨17, _⟩ => ⟨S128, .f32⟩
  | .hbm, ⟨18, _⟩ => ⟨S1x128, .f32⟩
  | .hbm, ⟨19, _⟩ => ⟨S_, .i32⟩
  | .hbm, ⟨20, _⟩ => ⟨S_, .f32⟩
  | .hbm, ⟨21, _⟩ => ⟨S128x128, .f32⟩
  | .hbm, ⟨22, _⟩ => ⟨S_, .i32⟩
  | .hbm, ⟨23, _⟩ => ⟨S_, .f32⟩
  | .hbm, ⟨24, _⟩ => ⟨S128, .f32⟩
  | .hbm, ⟨25, _⟩ => ⟨S1x128, .f32⟩
  | .hbm, ⟨26, _⟩ => ⟨S_, .i32⟩
  | .hbm, ⟨27, _⟩ => ⟨S_, .f32⟩
  | .hbm, ⟨28, _⟩ => ⟨S128, .f32⟩
  | .hbm, ⟨29, _⟩ => ⟨S1x128, .f32⟩
  | .hbm, ⟨30, _⟩ => ⟨S128x128, .f32⟩
  | .hbm, ⟨31, _⟩ => ⟨S128x128, .bf16⟩
  | .hbm, ⟨32, _⟩ => ⟨S128x128, .f32⟩
  | .hbm, ⟨33, _⟩ => ⟨S128x128, .bf16⟩
  | .hbm, ⟨34, _⟩ => ⟨S1x1x128, .f32⟩
  | .hbm, ⟨35, _⟩ => ⟨S1x1x1, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .local _ .vmem, ⟨0, _⟩ => ⟨S32x128x128, .bf16⟩
  | .local _ .vmem, ⟨1, _⟩ => ⟨S32x128x128, .bf16⟩
  | .local _ .vmem, ⟨2, _⟩ => ⟨S32x128x128, .bf16⟩
  | .local _ .vmem, ⟨3, _⟩ => ⟨S32x128x128, .bf16⟩
  | .local _ .vmem, ⟨4, _⟩ => ⟨S32x128x128, .bf16⟩
  | .local _ .vmem, ⟨5, _⟩ => ⟨S32x128x128, .bf16⟩
  | .local _ .vmem, ⟨6, _⟩ => ⟨S32x128x128, .bf16⟩
  | .local _ .vmem, ⟨7, _⟩ => ⟨S32x128x128, .bf16⟩
  | .local _ .vmem, ⟨8, _⟩ => ⟨S1x128x32, .i32⟩
  | .local _ .vmem, ⟨9, _⟩ => ⟨S1x128x32, .i32⟩
  | .local _ .vmem, ⟨10, _⟩ => ⟨S128x128, .bf16⟩
  | .local _ .vmem, ⟨11, _⟩ => ⟨S128x128, .bf16⟩
  | .local _ .vmem, ⟨12, _⟩ => ⟨S1x128, .f32⟩
  | .local _ .vmem, ⟨13, _⟩ => ⟨S128x128, .f32⟩
  | .local _ .vmem, ⟨14, _⟩ => ⟨S1x128, .f32⟩
  | .local _ .vmem, ⟨15, _⟩ => ⟨S1x128, .f32⟩
  | .local _ .vmem, ⟨16, _⟩ => ⟨S1x1x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x1, .f32⟩
  | .local _ .vmem, ⟨21, _⟩ => ⟨S32x128x128, .f32⟩
  | .local _ .vmem, ⟨22, _⟩ => ⟨S32x128x128, .f32⟩
  | .local _ .vmem, ⟨23, _⟩ => ⟨S128x128, .f32⟩
  | _, _ => ⟨S512x128x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_call1_v0 : Ref sig .tc := ⟨.hbm, 16, rfl⟩
abbrev main_v4 : Ref sig .tc := ⟨.hbm, 17, rfl⟩
abbrev main_v5 : Ref sig .tc := ⟨.hbm, 18, rfl⟩
abbrev main_c_1 : Ref sig .tc := ⟨.hbm, 19, rfl⟩
abbrev main_call2_v0 : Ref sig .tc := ⟨.hbm, 20, rfl⟩
abbrev main_v6 : Ref sig .tc := ⟨.hbm, 21, rfl⟩
abbrev main_c_2 : Ref sig .tc := ⟨.hbm, 22, rfl⟩
abbrev main_call3_v0 : Ref sig .tc := ⟨.hbm, 23, rfl⟩
abbrev main_v7 : Ref sig .tc := ⟨.hbm, 24, rfl⟩
abbrev main_v8 : Ref sig .tc := ⟨.hbm, 25, rfl⟩
abbrev main_c_3 : Ref sig .tc := ⟨.hbm, 26, rfl⟩
abbrev main_call4_v0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst : Ref sig .tc := ⟨.hbm, 38, rfl⟩
abbrev main_v19 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v979 : BitVec 1 := Scalar.cmpi .eq arg0 c15_i32
  let v980 : BitVec 32 := Scalar.extui v979
  let c0_i32_632 : BitVec 32 := 0#32
  let v981 : BitVec 1 := Scalar.cmpi .ne v980 c0_i32_632
  v981

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.addi arg0 c1_i32
  let c15_i32 : BitVec 32 := 15#32
  let v1 : BitVec 32 := Scalar.minsi v0 c15_i32
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let c1_i32 : BitVec 32 := 1#32
  let v0 : BitVec 32 := Scalar.addi arg0 c1_i32
  let c15_i32 : BitVec 32 := 15#32
  let v1 : BitVec 32 := Scalar.minsi v0 c15_i32
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S32x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x32 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference2Ideal.lean ====
abbrev S512x128x128 : Shape := ⟨3, ![512, 128, 128]⟩
abbrev S128x512 : Shape := ⟨2, ![128, 512]⟩
abbrev S17x256 : Shape := ⟨2, ![17, 256]⟩
abbrev S17 : Shape := ⟨1, ![17]⟩
abbrev S17x17 : Shape := ⟨2, ![17, 17]⟩
abbrev S512x128x256 : Shape := ⟨3, ![512, 128, 256]⟩
abbrev S128x512x256 : Shape := ⟨3, ![128, 512, 256]⟩
abbrev S128x512x17 : Shape := ⟨3, ![128, 512, 17]⟩
abbrev S1x1x17 : Shape := ⟨3, ![1, 1, 17]⟩
abbrev S512x128x17 : Shape := ⟨3, ![512, 128, 17]⟩
abbrev S512x128 : Shape := ⟨2, ![512, 128]⟩
abbrev S128 : Shape := ⟨1, ![128]⟩
abbrev S1x128 : Shape := ⟨2, ![1, 128]⟩
abbrev S_ : Shape := ⟨0, ![]⟩
abbrev S128x1 : Shape := ⟨2, ![128, 1]⟩
abbrev S128x3 : Shape := ⟨2, ![128, 3]⟩
abbrev S1x17 : Shape := ⟨2, ![1, 17]⟩
abbrev S1x128x17 : Shape := ⟨3, ![1, 128, 17]⟩
abbrev S128x17 : Shape := ⟨2, ![128, 17]⟩
abbrev S511x128x17 : Shape := ⟨3, ![511, 128, 17]⟩
abbrev S511x128 : Shape := ⟨2, ![511, 128]⟩
abbrev S128x2 : Shape := ⟨2, ![128, 2]⟩
abbrev S128x17x1 : Shape := ⟨3, ![128, 17, 1]⟩
abbrev S1x17x17 : Shape := ⟨3, ![1, 17, 17]⟩
abbrev S128x17x17 : Shape := ⟨3, ![128, 17, 17]⟩
abbrev S128x1x17 : Shape := ⟨3, ![128, 1, 17]⟩

abbrev nBuf : Space → Nat
  | .hbm => 189
  | .vmem => 0
  | .smem => 0
  | _ => 0

abbrev hbmTy0_0 (i : Nat) : BufTy := match i % 128 with
  | 0 => ⟨S512x128x128, .bf16⟩
  | 1 => ⟨S512x128x128, .bf16⟩
  | 2 => ⟨S128x512, .i32⟩
  | 3 => ⟨S128x512, .i1⟩
  | 4 => ⟨S17x256, .f32⟩
  | 5 => ⟨S17, .f32⟩
  | 6 => ⟨S17, .f32⟩
  | 7 => ⟨S17, .f32⟩
  | 8 => ⟨S17x17, .f32⟩
  | 9 => ⟨S512x128x128, .f32⟩
  | 10 => ⟨S512x128x128, .f32⟩
  | 11 => ⟨S512x128x256, .f32⟩
  | 12 => ⟨S128x512x256, .f32⟩
  | 13 => ⟨S128x512x17, .f32⟩
  | 14 => ⟨S1x1x17, .f32⟩
  | 15 => ⟨S128x512x17, .f32⟩
  | 16 => ⟨S128x512x17, .f32⟩
  | 17 => ⟨S512x128x17, .f32⟩
  | 18 => ⟨S512x128, .i32⟩
  | 19 => ⟨S512x128, .i1⟩
  | 20 => ⟨S128, .i32⟩
  | 21 => ⟨S512x128, .f32⟩
  | 22 => ⟨S1x128, .i32⟩
  | 23 => ⟨S128, .i32⟩
  | 24 => ⟨S_, .i32⟩
  | 25 => ⟨S128, .i32⟩
  | 26 => ⟨S128, .i1⟩
  | 27 => ⟨S_, .i32⟩
  | 28 => ⟨S128, .i32⟩
  | 29 => ⟨S128, .i32⟩
  | 30 => ⟨S128, .i32⟩
  | 31 => ⟨S128x1, .i32⟩
  | 32 => ⟨S128, .f32⟩
  | 33 => ⟨S1x128, .i32⟩
  | 34 => ⟨S128, .i32⟩
  | 35 => ⟨S_, .i32⟩
  | 36 => ⟨S128, .i32⟩
  | 37 => ⟨S128, .i1⟩
  | 38 => ⟨S_, .i32⟩
  | 39 => ⟨S128, .i32⟩
  | 40 => ⟨S128, .i32⟩
  | 41 => ⟨S128, .i32⟩
  | 42 => ⟨S_, .i32⟩
  | 43 => ⟨S128, .i32⟩
  | 44 => ⟨S128, .i1⟩
  | 45 => ⟨S_, .i32⟩
  | 46 => ⟨S128, .i32⟩
  | 47 => ⟨S128, .i32⟩
  | 48 => ⟨S128, .i32⟩
  | 49 => ⟨S_, .i32⟩
  | 50 => ⟨S128, .i32⟩
  | 51 => ⟨S128, .i32⟩
  | 52 => ⟨S128x1, .i32⟩
  | 53 => ⟨S128x1, .i32⟩
  | 54 => ⟨S128x1, .i32⟩
  | 55 => ⟨S128x3, .i32⟩
  | 56 => ⟨S128, .f32⟩
  | 57 => ⟨S128, .f32⟩
  | 58 => ⟨S1x17, .f32⟩
  | 59 => ⟨S1x128x17, .f32⟩
  | 60 => ⟨S128x17, .f32⟩
  | 61 => ⟨S128x17, .f32⟩
  | 62 => ⟨S128x17, .f32⟩
  | 63 => ⟨S1x128, .i32⟩
  | 64 => ⟨S128, .i32⟩
  | 65 => ⟨S511x128x17, .f32⟩
  | 66 => ⟨S511x128, .i32⟩
  | 67 => ⟨S511x128, .f32⟩
  | 68 => ⟨S511x128, .i1⟩
  | 69 => ⟨S_, .i32⟩
  | 70 => ⟨S511x128x17, .f32⟩
  | 71 => ⟨S511x128, .i32⟩
  | 72 => ⟨S511x128, .f32⟩
  | 73 => ⟨S511x128, .i1⟩
  | 74 => ⟨S17x17, .f32⟩
  | 75 => ⟨S128, .i32⟩
  | 76 => ⟨S_, .i32⟩
  | 77 => ⟨S128, .f32⟩
  | 78 => ⟨S128, .i32⟩
  | 79 => ⟨S128x17, .f32⟩
  | 80 => ⟨S_, .i32⟩
  | 81 => ⟨S_, .i1⟩
  | 82 => ⟨S_, .i32⟩
  | 83 => ⟨S_, .i32⟩
  | 84 => ⟨S1x128x17, .f32⟩
  | 85 => ⟨S128x17, .f32⟩
  | 86 => ⟨S_, .i32⟩
  | 87 => ⟨S1x128, .i32⟩
  | 88 => ⟨S128, .i32⟩
  | 89 => ⟨S_, .i32⟩
  | 90 => ⟨S1x128, .f32⟩
  | 91 => ⟨S128, .f32⟩
  | 92 => ⟨S_, .i32⟩
  | 93 => ⟨S1x128, .i1⟩
  | 94 => ⟨S128, .i1⟩
  | 95 => ⟨S_, .i32⟩
  | 96 => ⟨S128, .i32⟩
  | 97 => ⟨S128, .i1⟩
  | 98 => ⟨S_, .i32⟩
  | 99 => ⟨S128, .i32⟩
  | 100 => ⟨S128, .i32⟩
  | 101 => ⟨S128, .i32⟩
  | 102 => ⟨S_, .i32⟩
  | 103 => ⟨S128, .i32⟩
  | 104 => ⟨S128, .i1⟩
  | 105 => ⟨S_, .i32⟩
  | 106 => ⟨S128, .i32⟩
  | 107 => ⟨S128, .i32⟩
  | 108 => ⟨S128, .i32⟩
  | 109 => ⟨S128x1, .i32⟩
  | 110 => ⟨S128x1, .i32⟩
  | 111 => ⟨S128x2, .i32⟩
  | 112 => ⟨S128, .f32⟩
  | 113 => ⟨S_, .i32⟩
  | 114 => ⟨S128, .i32⟩
  | 115 => ⟨S128, .i1⟩
  | 116 => ⟨S_, .i32⟩
  | 117 => ⟨S128, .i32⟩
  | 118 => ⟨S128, .i32⟩
  | 119 => ⟨S128, .i32⟩
  | 120 => ⟨S_, .i32⟩
  | 121 => ⟨S128, .i32⟩
  | 122 => ⟨S128, .i1⟩
  | 123 => ⟨S_, .i32⟩
  | 124 => ⟨S128, .i32⟩
  | 125 => ⟨S128, .i32⟩
  | 126 => ⟨S128, .i32⟩
  | 127 => ⟨S128x1, .i32⟩
  | _ => ⟨S512x128x128, .bf16⟩

abbrev hbmTy0_1 (i : Nat) : BufTy := match i % 128 with
  | 0 => ⟨S128x1, .i32⟩
  | 1 => ⟨S128x2, .i32⟩
  | 2 => ⟨S128, .f32⟩
  | 3 => ⟨S128, .f32⟩
  | 4 => ⟨S128, .f32⟩
  | 5 => ⟨S128, .f32⟩
  | 6 => ⟨S128, .i32⟩
  | 7 => ⟨S128x17x1, .f32⟩
  | 8 => ⟨S1x17x17, .f32⟩
  | 9 => ⟨S128x17x17, .f32⟩
  | 10 => ⟨S128x17x17, .f32⟩
  | 11 => ⟨S128x17x17, .f32⟩
  | 12 => ⟨S128x1x17, .f32⟩
  | 13 => ⟨S128x17x17, .f32⟩
  | 14 => ⟨S128x17x17, .f32⟩
  | 15 => ⟨S_, .f32⟩
  | 16 => ⟨S128x17, .f32⟩
  | 17 => ⟨S128x1x17, .f32⟩
  | 18 => ⟨S128x17x17, .f32⟩
  | 19 => ⟨S128x17x17, .f32⟩
  | 20 => ⟨S128x17x17, .f32⟩
  | 21 => ⟨S_, .f32⟩
  | 22 => ⟨S128x17, .f32⟩
  | 23 => ⟨S128x17, .f32⟩
  | 24 => ⟨S128x17, .f32⟩
  | 25 => ⟨S128x17, .f32⟩
  | 26 => ⟨S128x1, .i1⟩
  | 27 => ⟨S128x17, .i1⟩
  | 28 => ⟨S128x17, .f32⟩
  | 29 => ⟨S_, .i32⟩
  | 30 => ⟨S_, .i32⟩
  | 31 => ⟨S_, .i32⟩
  | 32 => ⟨S128, .i32⟩
  | 33 => ⟨S128, .i1⟩
  | 34 => ⟨S_, .i32⟩
  | 35 => ⟨S128, .i32⟩
  | 36 => ⟨S128, .i32⟩
  | 37 => ⟨S128, .i32⟩
  | 38 => ⟨S128x1, .i32⟩
  | 39 => ⟨S128, .f32⟩
  | 40 => ⟨S128, .f32⟩
  | 41 => ⟨S1x17, .f32⟩
  | 42 => ⟨S128x17, .f32⟩
  | 43 => ⟨S128x17, .f32⟩
  | 44 => ⟨S_, .f32⟩
  | 45 => ⟨S128, .f32⟩
  | 46 => ⟨S128x1, .f32⟩
  | 47 => ⟨S128x17, .f32⟩
  | 48 => ⟨S128x17, .f32⟩
  | 49 => ⟨S128x17, .f32⟩
  | 50 => ⟨S_, .f32⟩
  | 51 => ⟨S128, .f32⟩
  | 52 => ⟨S128, .f32⟩
  | 53 => ⟨S128, .f32⟩
  | 54 => ⟨S128, .f32⟩
  | 55 => ⟨S128, .f32⟩
  | 56 => ⟨S_, .f32⟩
  | 57 => ⟨S_, .f32⟩
  | 58 => ⟨S_, .f32⟩
  | 59 => ⟨S_, .f32⟩
  | 60 => ⟨S_, .f32⟩
  | _ => ⟨S512x128x128, .bf16⟩

abbrev hbmTy (i : Nat) : BufTy := match i / 128 with
  | 0 => hbmTy0_0 i
  | 1 => hbmTy0_1 i
  | _ => ⟨S512x128x128, .bf16⟩

abbrev bufTy : (tb : Table) → Fin (tcTables nBuf tb) → BufTy
  | .hbm, ⟨i, _⟩ => hbmTy i
  | _, _ => ⟨S512x128x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_1 : Ref sig .tc := ⟨.hbm, 35, rfl⟩
abbrev main_v24 : Ref sig .tc := ⟨.hbm, 36, rfl⟩
abbrev main_v25 : Ref sig .tc := ⟨.hbm, 37, rfl⟩
abbrev main_c_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_3 : Ref sig .tc := ⟨.hbm, 42, rfl⟩
abbrev main_v29 : Ref sig .tc := ⟨.hbm, 43, rfl⟩
abbrev main_v30 : Ref sig .tc := ⟨.hbm, 44, rfl⟩
abbrev main_c_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_c_6 : Ref sig .tc := ⟨.hbm, 69, rfl⟩
abbrev main_v53_0 : Ref sig .tc := ⟨.hbm, 70, rfl⟩
abbrev main_v53_1 : Ref sig .tc := ⟨.hbm, 71, rfl⟩
abbrev main_v53_2 : Ref sig .tc := ⟨.hbm, 72, rfl⟩
abbrev main_v53_3 : Ref sig .tc := ⟨.hbm, 73, rfl⟩
abbrev main_v53_4 : Ref sig .tc := ⟨.hbm, 74, rfl⟩
abbrev main_v53_5 : Ref sig .tc := ⟨.hbm, 75, rfl⟩
abbrev main_v53_6 : Ref sig .tc := ⟨.hbm, 76, rfl⟩
abbrev main_v53_7 : Ref sig .tc := ⟨.hbm, 77, rfl⟩
abbrev main_v53_8 : Ref sig .tc := ⟨.hbm, 78, rfl⟩
abbrev main_v53_9 : Ref sig .tc := ⟨.hbm, 79, rfl⟩
abbrev main_while0c_c_21 : Ref sig .tc := ⟨.hbm, 80, rfl⟩
abbrev main_while0c_v78 : Ref sig .tc := ⟨.hbm, 81, rfl⟩
abbrev main_while0b_call0_c : Ref sig .tc := ⟨.hbm, 82, rfl⟩
abbrev main_while0b_call0_c_0 : Ref sig .tc := ⟨.hbm, 83, rfl⟩
abbrev main_while0b_call0_v0 : Ref sig .tc := ⟨.hbm, 84, rfl⟩
abbrev main_while0b_v78 : Ref sig .tc := ⟨.hbm, 85, rfl⟩
abbrev main_while0b_call1_c : Ref sig .tc := ⟨.hbm, 86, rfl⟩
abbrev main_while0b_call1_v0 : Ref sig .tc := ⟨.hbm, 87, rfl⟩
abbrev main_while0b_v79 : Ref sig .tc := ⟨.hbm, 88, rfl⟩
abbrev main_while0b_call2_c : Ref sig .tc := ⟨.hbm, 89, rfl⟩
abbrev main_while0b_call2_v0 : Ref sig .tc := ⟨.hbm, 90, rfl⟩
abbrev main_while0b_v80 : Ref sig .tc := ⟨.hbm, 91, rfl⟩
abbrev main_while0b_call3_c : Ref sig .tc := ⟨.hbm, 92, rfl⟩
abbrev main_while0b_call3_v0 : Ref sig .tc := ⟨.hbm, 93, rfl⟩
abbrev main_while0b_v81 : Ref sig .tc := ⟨.hbm, 94, rfl⟩
abbrev main_while0b_c_21 : Ref sig .tc := ⟨.hbm, 95, rfl⟩
abbrev main_while0b_v82 : Ref sig .tc := ⟨.hbm, 96, rfl⟩
abbrev main_while0b_v83 : Ref sig .tc := ⟨.hbm, 97, rfl⟩
abbrev main_while0b_c_22 : Ref sig .tc := ⟨.hbm, 98, rfl⟩
abbrev main_while0b_v84 : Ref sig .tc := ⟨.hbm, 99, rfl⟩
abbrev main_while0b_v85 : Ref sig .tc := ⟨.hbm, 100, rfl⟩
abbrev main_while0b_v86 : Ref sig .tc := ⟨.hbm, 101, rfl⟩
abbrev main_while0b_c_23 : Ref sig .tc := ⟨.hbm, 102, rfl⟩
abbrev main_while0b_v87 : Ref sig .tc := ⟨.hbm, 103, rfl⟩
abbrev main_while0b_v88 : Ref sig .tc := ⟨.hbm, 104, rfl⟩
abbrev main_while0b_c_24 : Ref sig .tc := ⟨.hbm, 105, rfl⟩
abbrev main_while0b_v89 : Ref sig .tc := ⟨.hbm, 106, rfl⟩
abbrev main_while0b_v90 : Ref sig .tc := ⟨.hbm, 107, rfl⟩
abbrev main_while0b_v91 : Ref sig .tc := ⟨.hbm, 108, rfl⟩
abbrev main_while0b_v92 : Ref sig .tc := ⟨.hbm, 109, rfl⟩
abbrev main_while0b_v93 : Ref sig .tc := ⟨.hbm, 110, rfl⟩
abbrev main_while0b_v94 : Ref sig .tc := ⟨.hbm, 111, rfl⟩
abbrev main_while0b_v95 : Ref sig .tc := ⟨.hbm, 112, rfl⟩
abbrev main_while0b_c_25 : Ref sig .tc := ⟨.hbm, 113, rfl⟩
abbrev main_while0b_v96 : Ref sig .tc := ⟨.hbm, 114, rfl⟩
abbrev main_while0b_v97 : Ref sig .tc := ⟨.hbm, 115, rfl⟩
abbrev main_while0b_c_26 : Ref sig .tc := ⟨.hbm, 116, rfl⟩
abbrev main_while0b_v98 : Ref sig .tc := ⟨.hbm, 117, rfl⟩
abbrev main_while0b_v99 : Ref sig .tc := ⟨.hbm, 118, rfl⟩
abbrev main_while0b_v100 : Ref sig .tc := ⟨.hbm, 119, rfl⟩
abbrev main_while0b_c_27 : Ref sig .tc := ⟨.hbm, 120, rfl⟩
abbrev main_while0b_v101 : Ref sig .tc := ⟨.hbm, 121, rfl⟩
abbrev main_while0b_v102 : Ref sig .tc := ⟨.hbm, 122, rfl⟩
abbrev main_while0b_c_28 : Ref sig .tc := ⟨.hbm, 123, rfl⟩
abbrev main_while0b_v103 : Ref sig .tc := ⟨.hbm, 124, rfl⟩
abbrev main_while0b_v104 : Ref sig .tc := ⟨.hbm, 125, rfl⟩
abbrev main_while0b_v105 : Ref sig .tc := ⟨.hbm, 126, rfl⟩
abbrev main_while0b_v106 : Ref sig .tc := ⟨.hbm, 127, rfl⟩
abbrev main_while0b_v107 : Ref sig .tc := ⟨.hbm, 128, rfl⟩
abbrev main_while0b_v108 : Ref sig .tc := ⟨.hbm, 129, rfl⟩
abbrev main_while0b_v109 : Ref sig .tc := ⟨.hbm, 130, rfl⟩
abbrev main_while0b_v110 : Ref sig .tc := ⟨.hbm, 131, rfl⟩
abbrev main_while0b_v111 : Ref sig .tc := ⟨.hbm, 132, rfl⟩
abbrev main_while0b_v112 : Ref sig .tc := ⟨.hbm, 133, rfl⟩
abbrev main_while0b_v113 : Ref sig .tc := ⟨.hbm, 134, rfl⟩
abbrev main_while0b_v114 : Ref sig .tc := ⟨.hbm, 135, rfl⟩
abbrev main_while0b_v115 : Ref sig .tc := ⟨.hbm, 136, rfl⟩
abbrev main_while0b_v116 : Ref sig .tc := ⟨.hbm, 137, rfl⟩
abbrev main_while0b_v117 : Ref sig .tc := ⟨.hbm, 138, rfl⟩
abbrev main_while0b_v118 : Ref sig .tc := ⟨.hbm, 139, rfl⟩
abbrev main_while0b_v119 : Ref sig .tc := ⟨.hbm, 140, rfl⟩
abbrev main_while0b_v120 : Ref sig .tc := ⟨.hbm, 141, rfl⟩
abbrev main_while0b_v121 : Ref sig .tc := ⟨.hbm, 142, rfl⟩
abbrev main_while0b_cst_29 : Ref sig .tc := ⟨.hbm, 143, rfl⟩
abbrev main_while0b_v122 : Ref sig .tc := ⟨.hbm, 144, rfl⟩
abbrev main_while0b_v123 : Ref sig .tc := ⟨.hbm, 145, rfl⟩
abbrev main_while0b_v124 : Ref sig .tc := ⟨.hbm, 146, rfl⟩
abbrev main_while0b_v125 : Ref sig .tc := ⟨.hbm, 147, rfl⟩
abbrev main_while0b_v126 : Ref sig .tc := ⟨.hbm, 148, rfl⟩
abbrev main_while0b_cst_30 : Ref sig .tc := ⟨.hbm, 149, rfl⟩
abbrev main_while0b_v127 : Ref sig .tc := ⟨.hbm, 150, rfl⟩
abbrev main_while0b_v128 : Ref sig .tc := ⟨.hbm, 151, rfl⟩
abbrev main_while0b_v129 : Ref sig .tc := ⟨.hbm, 152, rfl⟩
abbrev main_while0b_v130 : Ref sig .tc := ⟨.hbm, 153, rfl⟩
abbrev main_while0b_v131 : Ref sig .tc := ⟨.hbm, 154, rfl⟩
abbrev main_while0b_call5_v0 : Ref sig .tc := ⟨.hbm, 155, rfl⟩
abbrev main_while0b_v132 : Ref sig .tc := ⟨.hbm, 156, rfl⟩
abbrev main_while0b_c_31 : Ref sig .tc := ⟨.hbm, 157, rfl⟩
abbrev main_while0b_v133 : Ref sig .tc := ⟨.hbm, 158, rfl⟩
abbrev main_c_7 : Ref sig .tc := ⟨.hbm, 159, rfl⟩
abbrev main_v54 : Ref sig .tc := ⟨.hbm, 160, rfl⟩
abbrev main_v55 : Ref sig .tc := ⟨.hbm, 161, rfl⟩
abbrev main_c_8 : Ref sig .tc := ⟨.hbm, 162, rfl⟩
abbrev main_v56 : Ref sig .tc := ⟨.hbm, 163, rfl⟩
abbrev main_v57 : Ref sig .tc := ⟨.hbm, 164, rfl⟩
abbrev main_v58 : Ref sig .tc := ⟨.hbm, 165, rfl⟩
abbrev main_v59 : Ref sig .tc := ⟨.hbm, 166, rfl⟩
abbrev main_v60 : Ref sig .tc := ⟨.hbm, 167, rfl⟩
abbrev main_v61 : Ref sig .tc := ⟨.hbm, 168, rfl⟩
abbrev main_v62 : Ref sig .tc := ⟨.hbm, 169, rfl⟩
abbrev main_v63 : Ref sig .tc := ⟨.hbm, 170, rfl⟩
abbrev main_v64 : Ref sig .tc := ⟨.hbm, 171, rfl⟩
abbrev main_cst : Ref sig .tc := ⟨.hbm, 172, rfl⟩
abbrev main_v65 : Ref sig .tc := ⟨.hbm, 173, rfl⟩
abbrev main_v66 : Ref sig .tc := ⟨.hbm, 174, rfl⟩
abbrev main_v67 : Ref sig .tc := ⟨.hbm, 175, rfl⟩
abbrev main_v68 : Ref sig .tc := ⟨.hbm, 176, rfl⟩
abbrev main_v69 : Ref sig .tc := ⟨.hbm, 177, rfl⟩
abbrev main_cst_9 : Ref sig .tc := ⟨.hbm, 178, rfl⟩
abbrev main_v70 : Ref sig .tc := ⟨.hbm, 179, rfl⟩
abbrev main_v71 : Ref sig .tc := ⟨.hbm, 180, rfl⟩
abbrev main_v72 : Ref sig .tc := ⟨.hbm, 181, rfl⟩
abbrev main_v73 : Ref sig .tc := ⟨.hbm, 182, rfl⟩
abbrev main_v74 : Ref sig .tc := ⟨.hbm, 183, rfl⟩
abbrev main_cst_10 : Ref sig .tc := ⟨.hbm, 184, rfl⟩
abbrev main_v75 : Ref sig .tc := ⟨.hbm, 185, rfl⟩
abbrev main_cst_11 : Ref sig .tc := ⟨.hbm, 186, rfl⟩
abbrev main_v76 : Ref sig .tc := ⟨.hbm, 187, rfl⟩
abbrev main_v77 : Ref sig .tc := ⟨.hbm, 188, rfl⟩

abbrev nD : Nat := 1
abbrev τ : Topo := Topo.v7x

variable {F : FTy → Type} [FloatOps F]

abbrev main_while0_count : Scf.Loop 32 := ⟨0#32, 511#32, 1#32⟩
-- ==== Proof.Block.lean ====
module

public import proofs.«01_k».proof.Proof.Gen.KernelIdeal.Value
public import Idealize.ShloMosaic.Lib.Pointwise
public import Idealize.ShloMosaic.Lib.WritesUnit
public import Idealize.ShloMosaic.Lib.VecWindow
public import Idealize.ShloMosaic.Lib.WholeRead

/-! What one grid point of the kernel computes: thirty-two steps of each direction's cell, as an iterate. -/

@[expose] public section

set_option maxRecDepth 16384

noncomputable section

namespace Cert.KernelIdeal.Val

open Idealize.ShloMosaic Cert.KernelIdeal Cert.KernelIdeal.Gen

variable {F : FTy → Type} [FloatOps F]

/-- The row `i` of a block of thirty-two, as a rectangle. -/
theorem rowFits (i : ℕ) : ∀ a, (![i % 32, 0, 0] : Fin 3 → ℕ) a + S1x128x128.size a ≤ S32x128x128.size a := by
  intro a
  have := Nat.mod_lt i (show 0 < 32 by decide)
  match a with
  | 0 => show i % 32 + 1 ≤ 32; omega
  | 1 => show 0 + 128 ≤ 128; omega
  | 2 => show 0 + 128 ≤ 128; omega

/-- The rectangle of row `i`. -/
def rowRect (i : ℕ) : Rect S32x128x128 := Rect.unit ![i % 32, 0, 0] S1x128x128.size (rowFits i)

/-- What the load of row `i` of a staged block reads. -/
def rowOf (a : Memref sig .tc .vmem S32x128x128 .f32) (h : a.IsWhole) (x : Vec F S32x128x128 .f32) (i : ℕ) :
    Vec F S1x128x128 .f32 :=
  View.readAt (Elt F) a.view (rowRect i).toLoadRect (h.unread x)

/-- A direction's state: the hidden vectors and the cell vectors of the batch. -/
abbrev HC (F : FTy → Type) : Type := FVec F S128x128 .f32 × FVec F S128x128 .f32

/-- One step of a direction's cell on one row of inputs. -/
def cell (W : FVec F S256x512 .f32) (b : FVec F S1x512 .f32) (x : Vec F S1x128x128 .f32) (s : HC F) : HC F :=
  (k0_pay20 W b s.2 s.1 x, k0_pay19 W b s.2 s.1 x)

/-- The state after `n` steps on the rows `row 0, row 1, …`. -/
def steps (W : FVec F S256x512 .f32) (b : FVec F S1x512 .f32) (row : ℕ → Vec F S1x128x128 .f32) (s : HC F) : ℕ → HC F
  | 0 => s
  | n + 1 => cell W b (row n) (steps W b row s n)

/-- A hidden state as a row of the output block. -/
def outRow (h : FVec F S128x128 .f32) : FVec F S1x128x128 .bf16 := k0_pay16 h

/-- The stores of the first `n` forward rows, last first. -/
def stores (f : ℕ → FVec F S1x128x128 .bf16) : ℕ → List (View.Piece (Elt F) S32x128x128 .bf16)
  | 0 => []
  | n + 1 => ⟨rowRect n, f n⟩ :: stores f n

/-- The stores of the first `n` backward rows, which fill the block from its end, last first. -/
def storesB (f : ℕ → FVec F S1x128x128 .bf16) : ℕ → List (View.Piece (Elt F) S32x128x128 .bf16)
  | 0 => []
  | n + 1 => ⟨rowRect (31 - n), f n⟩ :: storesB f n

/-- The index of column pair `(p, q)` in row `r` of a block, and the same as the single row's index. -/
theorem stores_read (v : View sig .tc .vmem S32x128x128 .bf16) (f0 : v.ty.Contents (Elt F))
    (f : ℕ → FVec F S1x128x128 .bf16) (r : Fin 32) (p q : Fin 128) : ∀ n, n ≤ 32 → r.val < n →
    v.read (Elt F) (v.writes (Elt F) f0 (stores f n)) (ix3 r p q) = f r.val (ix3 0 p q)
  | 0, _, h => absurd h (Nat.not_lt_zero _)
  | n + 1, hn, h => by
    by_cases e : r.val = n
    · subst e
      refine View.read_writes_cons_unit_of_mem v f0 (rowFits r.val) _ _ (ix3 r p q) (ix3 0 p q) rfl fun a => ?_
      match a with
      | 0 => show r.val = r.val % 32 + 0; omega
      | 1 => show p.val = 0 + p.val; omega
      | 2 => show q.val = 0 + q.val; omega
    · refine (View.read_writes_cons_unit_of_not_mem v f0 (rowFits n) _ _ (ix3 r p q) rfl 0 (Or.inl ?_)).trans
        (stores_read v f0 f r p q n (by omega) (by omega))
      show r.val < n % 32
      omega

/-- The same for the backward rows: row `r` is the store number `31 - r`. -/
theorem storesB_read (v : View sig .tc .vmem S32x128x128 .bf16) (f0 : v.ty.Contents (Elt F))
    (f : ℕ → FVec F S1x128x128 .bf16) (r : Fin 32) (p q : Fin 128) : ∀ n, n ≤ 32 → 31 - r.val < n →
    v.read (Elt F) (v.writes (Elt F) f0 (storesB f n)) (ix3 r p q) = f (31 - r.val) (ix3 0 p q)
  | 0, _, h => absurd h (Nat.not_lt_zero _)
  | n + 1, hn, h => by
    by_cases e : 31 - r.val = n
    · subst e
      refine View.read_writes_cons_unit_of_mem v f0 (rowFits (31 - (31 - r.val))) _ _ (ix3 r p q) (ix3 0 p q) rfl fun a => ?_
      match a with
      | 0 => show r.val = (31 - (31 - r.val)) % 32 + 0; omega
      | 1 => show p.val = 0 + p.val; omega
      | 2 => show q.val = 0 + q.val; omega
    · refine (View.read_writes_cons_unit_of_not_mem v f0 (rowFits (31 - n)) _ _ (ix3 r p q) rfl 0 (Or.inr ?_)).trans
        (storesB_read v f0 f r p q n (by omega) (by omega))
      show (31 - n) % 32 + 1 ≤ r.val
      omega

/-- Row `i` of a block as a vector. -/
def rowV (x : Vec F S32x128x128 .f32) (i : ℕ) : Vec F S1x128x128 .f32 :=
  fun j => x (ix3 ⟨i % 32, Nat.mod_lt _ (by decide)⟩ (j 1) (j 2))

theorem rowOf_eq (a : Memref sig .tc .vmem S32x128x128 .f32) (h : a.IsWhole) (x : Vec F S32x128x128 .f32) :
    rowOf a h x = rowV x := by
  funext i j
  refine (h.readAt_unread x (rowRect i).toLoadRect j).trans (congrArg x (funext fun k => Fin.ext ?_))
  match k with
  | 0 => have : (j 0).val < 1 := (j 0).isLt
         show i % 32 + 1 * (j 0).val = i % 32; omega
  | 1 => show 0 + 1 * (j 1).val = (j 1).val; omega
  | 2 => show 0 + 1 * (j 2).val = (j 2).val; omega

/-- The load of a whole memref. -/
def load {s : Shape} {e : EltTy} (a : Memref sig .tc .vmem s e) (h : a.IsWhole) (x : Vec F s e)
    (off : Fin s.rank → ℕ) (inb : ∀ k, off k + s.size k ≤ s.size k) : Vec F s e :=
  View.readAt (Elt F) a.view (Rect.unit off s.size inb).toLoadRect (h.unread x)

theorem load_eq {s : Shape} {e : EltTy} (a : Memref sig .tc .vmem s e) (h : a.IsWhole) (x : Vec F s e)
    (off : Fin s.rank → ℕ) (inb : ∀ k, off k + s.size k ≤ s.size k) : load a h x off inb = x :=
  (View.readAt_full a.view _ inb).trans (h.read_unread x)

theorem wF_eq (x : Vec F S256x512 .f32) : k0_pay6 x = x := shapeCast_self _ _
theorem wB_eq (x : Vec F S256x512 .f32) : k0_pay7 x = x := shapeCast_self _ _
theorem bF_eq (x : Vec F S1x512 .f32) : k0_pay8 x = x := shapeCast_self _ _
theorem bB_eq (x : Vec F S1x512 .f32) : k0_pay9 x = x := shapeCast_self _ _
theorem keep_eq (x : FVec F S128x128 .f32) : k0_pay1 x = x := shapeCast_self _ _

/-- The forward state after `n` steps of a point that starts from `s`. -/
abbrev fwd (x0 : Vec F S32x128x128 .f32) (x2 : Vec F S256x512 .f32) (x4 : Vec F S1x512 .f32) (s : HC F) (n : ℕ) : HC F :=
  steps x2 x4 (rowV x0) s n

/-- The backward state after `n` steps: its rows are taken from the block's end. -/
abbrev bwd (x1 : Vec F S32x128x128 .f32) (x3 : Vec F S256x512 .f32) (x5 : Vec F S1x512 .f32) (s : HC F) (n : ℕ) : HC F :=
  steps x3 x5 (fun k => rowV x1 (31 - k)) s n

section Run

variable (c : Dev nD) (i : grid0.Coords) (arg1 : Memref sig .tc .vmem S32x128x128 .f32) (harg1 : arg1.IsWhole) (arg2 : Memref sig .tc .vmem S32x128x128 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S32x128x128 .bf16) (harg7 : arg7.IsWhole) (arg8 : Memref sig .tc .vmem S32x128x128 .bf16) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole)
variable (x0 : Vec F S32x128x128 .f32) (x1 : Vec F S32x128x128 .f32) (x2 : Vec F S256x512 .f32) (x3 : Vec F S256x512 .f32) (x4 : Vec F S1x512 .f32) (x5 : Vec F S1x512 .f32)
variable (hA : cond0_0 i) (hB : ¬cond0_0 i) (xs0 xs1 xs2 xs3 : Vec F S128x128 .f32)

/-- The forward state of the run, over the loads it makes. -/
abbrev runF (s : HC F) (n : ℕ) : HC F :=
  steps (k0_pay6 (load arg3 harg3 x2 ![0, 0] inb_S256x512_S256x512_0_0)) (k0_pay8 (load arg5 harg5 x4 ![0, 0] inb_S1x512_S1x512_0_0))
    (rowOf arg1 harg1 x0) s n

/-- The backward state of the run, over the loads it makes. -/
abbrev runB (s : HC F) (n : ℕ) : HC F :=
  steps (k0_pay7 (load arg4 harg4 x3 ![0, 0] inb_S256x512_S256x512_0_0)) (k0_pay9 (load arg6 harg6 x5 ![0, 0] inb_S1x512_S1x512_0_0))
    (fun k => rowOf arg2 harg2 x1 (31 - k)) s n

theorem runF_eq (s : HC F) (n : ℕ) : runF arg1 harg1 arg3 harg3 arg5 harg5 x0 x2 x4 s n = fwd x0 x2 x4 s n := by
  simp only [runF, fwd, load_eq, rowOf_eq, wF_eq, bF_eq]

theorem runB_eq (s : HC F) (n : ℕ) : runB arg2 harg2 arg4 harg4 arg6 harg6 x1 x3 x5 s n = bwd x1 x3 x5 s n := by
  simp only [runB, bwd, load_eq, rowOf_eq, wB_eq, bB_eq]

/-- What a later point loads of a carried buffer. -/
abbrev carried (a : Memref sig .tc .vmem S128x128 .f32) (h : a.IsWhole) (x : Vec F S128x128 .f32) : Vec F S128x128 .f32 :=
  load a h x ![0, 0] inb_S128x128_S128x128_0_0

/-- What the first point loads of a carried buffer it has just zeroed. -/
abbrev zeroed (a : Memref sig .tc .vmem S128x128 .f32) : Vec F S128x128 .f32 :=
  a.view.readCov [⟨Rect.unit ![0, 0] S128x128.size inb_S128x128_S128x128_0_0, k0_pay2⟩]
    (Rect.unit ![0, 0] S128x128.size inb_S128x128_S128x128_0_0).toLoadRect

theorem zeroed_eq (a : Memref sig .tc .vmem S128x128 .f32) : zeroed (F := F) a = k0_pay2 := View.readCov_full _ _ _ _ _

/-- The one store into a carried buffer, over what was stored before. -/
abbrev kept (h : FVec F S128x128 .f32) (L : List (View.Piece (Elt F) S128x128 .f32)) : List (View.Piece (Elt F) S128x128 .f32) :=
  ⟨Rect.unit ![0, 0] S128x128.size inb_S128x128_S128x128_0_0, k0_pay1 h⟩ :: L

theorem kept_read (v : View sig .tc .vmem S128x128 .f32) (f0 : v.ty.Contents (Elt F)) (h : FVec F S128x128 .f32)
    (L : List (View.Piece (Elt F) S128x128 .f32)) : v.read (Elt F) (v.writes (Elt F) f0 (kept h L)) = h :=
  (View.read_writes_full v f0 _ _ L).trans (keep_eq h)

theorem out6_B (r : Fin 32) (p q : Fin 128) :
    out0_B_6 c i arg1 harg1 arg2 harg2 arg3 harg3 arg4 harg4 arg5 harg5 arg6 harg6 arg7 harg7 arg8 harg8 arg9 harg9 arg10 harg10 arg11 harg11 arg12 harg12 hB x0 x1 x2 x3 x4 x5 xs0 xs1 xs2 xs3 (ix3 r p q) = outRow (fwd x0 x2 x4 (xs0, xs1) (r.val + 1)).1 (ix3 0 p q) := by
  rw [show out0_B_6 c i arg1 harg1 arg2 harg2 arg3 harg3 arg4 harg4 arg5 harg5 arg6 harg6 arg7 harg7 arg8 harg8 arg9 harg9 arg10 harg10 arg11 harg11 arg12 harg12 hB x0 x1 x2 x3 x4 x5 xs0 xs1 xs2 xs3 =
    VO0_6.read (Elt F) (VO0_6.writes (Elt F) VO0_6.junk (stores (fun n => outRow (runF arg1 harg1 arg3 harg3 arg5 harg5 x0 x2 x4 (carried arg9 harg9 xs0, carried arg10 harg10 xs1) (n + 1)).1) 32)) from by sl_kernel_rfl,
    stores_read _ _ _ r p q 32 (Nat.le_refl _) (by omega)]
  simp only [runF_eq, load_eq]

theorem out7_B (r : Fin 32) (p q : Fin 128) :
    out0_B_7 c i arg1 harg1 arg2 harg2 arg3 harg3 arg4 harg4 arg5 harg5 arg6 harg6 arg7 harg7 arg8 harg8 arg9 harg9 arg10 harg10 arg11 harg11 arg12 harg12 hB x0 x1 x2 x3 x4 x5 xs0 xs1 xs2 xs3 (ix3 r p q) = outRow (bwd x1 x3 x5 (xs2, xs3) (31 - r.val + 1)).1 (ix3 0 p q) := by
  rw [show out0_B_7 c i arg1 harg1 arg2 harg2 arg3 harg3 arg4 harg4 arg5 harg5 arg6 harg6 arg7 harg7 arg8 harg8 arg9 harg9 arg10 harg10 arg11 harg11 arg12 harg12 hB x0 x1 x2 x3 x4 x5 xs0 xs1 xs2 xs3 =
    VO0_7.read (Elt F) (VO0_7.writes (Elt F) VO0_7.junk (storesB (fun n => outRow (runB arg2 harg2 arg4 harg4 arg6 harg6 x1 x3 x5 (carried arg11 harg11 xs2, carried arg12 harg12 xs3) (n + 1)).1) 32)) from by sl_kernel_rfl,
    storesB_read _ _ _ r p q 32 (Nat.le_refl _) (by omega)]
  simp only [runB_eq, load_eq]

theorem scr0_B :
    sout0_B_0 c i arg1 harg1 arg2 harg2 arg3 harg3 arg4 harg4 arg5 harg5 arg6 harg6 arg7 harg7 arg8 harg8 arg9 harg9 arg10 harg10 arg11 harg11 arg12 harg12 hB x0 x1 x2 x3 x4 x5 xs0 xs1 xs2 xs3 = (fwd x0 x2 x4 (xs0, xs1) 32).1 := by
  rw [show sout0_B_0 c i arg1 harg1 arg2 harg2 arg3 harg3 arg4 harg4 arg5 harg5 arg6 harg6 arg7 harg7 arg8 harg8 arg9 harg9 arg10 harg10 arg11 harg11 arg12 harg12 hB x0 x1 x2 x3 x4 x5 xs0 xs1 xs2 xs3 =
    VS0_0.read (Elt F) (VS0_0.writes (Elt F) VS0_0.junk (kept (runF arg1 harg1 arg3 harg3 arg5 harg5 x0 x2 x4 (carried arg9 harg9 xs0, carried arg10 harg10 xs1) 32).1 [])) from by sl_kernel_rfl, kept_read]
  simp only [runF_eq, load_eq]

theorem scr1_B :
    sout0_B_1 c i arg1 harg1 arg2 harg2 arg3 harg3 arg4 harg4 arg5 harg5 arg6 harg6 arg7 harg7 arg8 harg8 arg9 harg9 arg10 harg10 arg11 harg11 arg12 harg12 hB x0 x1 x2 x3 x4 x5 xs0 xs1 xs2 xs3 = (fwd x0 x2 x4 (xs0, xs1) 32).2 := by
  rw [show sout0_B_1 c i arg1 harg1 arg2 harg2 arg3 harg3 arg4 harg4 arg5 harg5 arg6 harg6 arg7 harg7 arg8 harg8 arg9 harg9 arg10 harg10 arg11 harg11 arg12 harg12 hB x0 x1 x2 x3 x4 x5 xs0 xs1 xs2 xs3 =
    VS0_1.read (Elt F) (VS0_1.writes (Elt F) VS0_1.junk (kept (runF arg1 harg1 arg3 harg3 arg5 harg5 x0 x2 x4 (carried arg9 harg9 xs0, carried arg10 harg10 xs1) 32).2 [])) from by sl_kernel_rfl, kept_read]
  simp only [runF_eq, load_eq]

theorem scr2_B :
    sout0_B_2 c i arg1 harg1 arg2 harg2 arg3 harg3 arg4 harg4 arg5 harg5 arg6 harg6 arg7 harg7 arg8 harg8 arg9 harg9 arg10 harg10 arg11 harg11 arg12 harg12 hB x0 x1 x2 x3 x4 x5 xs0 xs1 xs2 xs3 = (bwd x1 x3 x5 (xs2, xs3) 32).1 := by
  rw [show sout0_B_2 c i arg1 harg1 arg2 harg2 arg3 harg3 arg4 harg4 arg5 harg5 arg6 harg6 arg7 harg7 arg8 harg8 arg9 harg9 arg10 harg10 arg11 harg11 arg12 harg12 hB x0 x1 x2 x3 x4 x5 xs0 xs1 xs2 xs3 =
    VS0_2.read (Elt F) (VS0_2.writes (Elt F) VS0_2.junk (kept (runB arg2 harg2 arg4 harg4 arg6 harg6 x1 x3 x5 (carried arg11 harg11 xs2, carried arg12 harg12 xs3) 32).1 [])) from by sl_kernel_rfl, kept_read]
  simp only [runB_eq, load_eq]

theorem scr3_B :
    sout0_B_3 c i arg1 harg1 arg2 harg2 arg3 harg3 arg4 harg4 arg5 harg5 arg6 harg6 arg7 harg7 arg8 harg8 arg9 harg9 arg10 harg10 arg11 harg11 arg12 harg12 hB x0 x1 x2 x3 x4 x5 xs0 xs1 xs2 xs3 = (bwd x1 x3 x5 (xs2, xs3) 32).2 := by
  rw [show sout0_B_3 c i arg1 harg1 arg2 harg2 arg3 harg3 arg4 harg4 arg5 harg5 arg6 harg6 arg7 harg7 arg8 harg8 arg9 harg9 arg10 harg10 arg11 harg11 arg12 harg12 hB x0 x1 x2 x3 x4 x5 xs0 xs1 xs2 xs3 =
    VS0_3.read (Elt F) (VS0_3.writes (Elt F) VS0_3.junk (kept (runB arg2 harg2 arg4 harg4 arg6 harg6 x1 x3 x5 (carried arg11 harg11 xs2, carried arg12 harg12 xs3) 32).2 [])) from by sl_kernel_rfl, kept_read]
  simp only [runB_eq, load_eq]

theorem out6_A (r : Fin 32) (p q : Fin 128) :
    out0_A_6 c i arg1 harg1 arg2 harg2 arg3 harg3 arg4 harg4 arg5 harg5 arg6 harg6 arg7 harg7 arg8 harg8 arg9 harg9 arg10 harg10 arg11 harg11 arg12 harg12 hA x0 x1 x2 x3 x4 x5 (ix3 r p q) = outRow (fwd x0 x2 x4 (k0_pay2, k0_pay2) (r.val + 1)).1 (ix3 0 p q) := by
  rw [show out0_A_6 c i arg1 harg1 arg2 harg2 arg3 harg3 arg4 harg4 arg5 harg5 arg6 harg6 arg7 harg7 arg8 harg8 arg9 harg9 arg10 harg10 arg11 harg11 arg12 harg12 hA x0 x1 x2 x3 x4 x5 =
    VO0_6.read (Elt F) (VO0_6.writes (Elt F) VO0_6.junk (stores (fun n => outRow (runF arg1 harg1 arg3 harg3 arg5 harg5 x0 x2 x4 (zeroed arg9, zeroed arg10) (n + 1)).1) 32)) from by sl_kernel_rfl,
    stores_read _ _ _ r p q 32 (Nat.le_refl _) (by omega)]
  simp only [runF_eq, zeroed_eq]

theorem out7_A (r : Fin 32) (p q : Fin 128) :
    out0_A_7 c i arg1 harg1 arg2 harg2 arg3 harg3 arg4 harg4 arg5 harg5 arg6 harg6 arg7 harg7 arg8 harg8 arg9 harg9 arg10 harg10 arg11 harg11 arg12 harg12 hA x0 x1 x2 x3 x4 x5 (ix3 r p q) = outRow (bwd x1 x3 x5 (k0_pay2, k0_pay2) (31 - r.val + 1)).1 (ix3 0 p q) := by
  rw [show out0_A_7 c i arg1 harg1 arg2 harg2 arg3 harg3 arg4 harg4 arg5 harg5 arg6 harg6 arg7 harg7 arg8 harg8 arg9 harg9 arg10 harg10 arg11 harg11 arg12 harg12 hA x0 x1 x2 x3 x4 x5 =
    VO0_7.read (Elt F) (VO0_7.writes (Elt F) VO0_7.junk (storesB (fun n => outRow (runB arg2 harg2 arg4 harg4 arg6 harg6 x1 x3 x5 (zeroed arg11, zeroed arg12) (n + 1)).1) 32)) from by sl_kernel_rfl,
    storesB_read _ _ _ r p q 32 (Nat.le_refl _) (by omega)]
  simp only [runB_eq, zeroed_eq]

theorem scr0_A :
    sout0_A_0 c i arg1 harg1 arg2 harg2 arg3 harg3 arg4 harg4 arg5 harg5 arg6 harg6 arg7 harg7 arg8 harg8 arg9 harg9 arg10 harg10 arg11 harg11 arg12 harg12 hA x0 x1 x2 x3 x4 x5 = (fwd x0 x2 x4 (k0_pay2, k0_pay2) 32).1 := by
  rw [show sout0_A_0 c i arg1 harg1 arg2 harg2 arg3 harg3 arg4 harg4 arg5 harg5 arg6 harg6 arg7 harg7 arg8 harg8 arg9 harg9 arg10 harg10 arg11 harg11 arg12 harg12 hA x0 x1 x2 x3 x4 x5 =
    VS0_0.read (Elt F) (VS0_0.writes (Elt F) VS0_0.junk (kept (runF arg1 harg1 arg3 harg3 arg5 harg5 x0 x2 x4 (zeroed arg9, zeroed arg10) 32).1 [⟨Rect.unit ![0, 0] S128x128.size inb_S128x128_S128x128_0_0, k0_pay2⟩])) from by sl_kernel_rfl, kept_read]
  simp only [runF_eq, zeroed_eq]

theorem scr1_A :
    sout0_A_1 c i arg1 harg1 arg2 harg2 arg3 harg3 arg4 harg4 arg5 harg5 arg6 harg6 arg7 harg7 arg8 harg8 arg9 harg9 arg10 harg10 arg11 harg11 arg12 harg12 hA x0 x1 x2 x3 x4 x5 = (fwd x0 x2 x4 (k0_pay2, k0_pay2) 32).2 := by
  rw [show sout0_A_1 c i arg1 harg1 arg2 harg2 arg3 harg3 arg4 harg4 arg5 harg5 arg6 harg6 arg7 harg7 arg8 harg8 arg9 harg9 arg10 harg10 arg11 harg11 arg12 harg12 hA x0 x1 x2 x3 x4 x5 =
    VS0_1.read (Elt F) (VS0_1.writes (Elt F) VS0_1.junk (kept (runF arg1 harg1 arg3 harg3 arg5 harg5 x0 x2 x4 (zeroed arg9, zeroed arg10) 32).2 [⟨Rect.unit ![0, 0] S128x128.size inb_S128x128_S128x128_0_0, k0_pay2⟩])) from by sl_kernel_rfl, kept_read]
  simp only [runF_eq, zeroed_eq]

theorem scr2_A :
    sout0_A_2 c i arg1 harg1 arg2 harg2 arg3 harg3 arg4 harg4 arg5 harg5 arg6 harg6 arg7 harg7 arg8 harg8 arg9 harg9 arg10 harg10 arg11 harg11 arg12 harg12 hA x0 x1 x2 x3 x4 x5 = (bwd x1 x3 x5 (k0_pay2, k0_pay2) 32).1 := by
  rw [show sout0_A_2 c i arg1 harg1 arg2 harg2 arg3 harg3 arg4 harg4 arg5 harg5 arg6 harg6 arg7 harg7 arg8 harg8 arg9 harg9 arg10 harg10 arg11 harg11 arg12 harg12 hA x0 x1 x2 x3 x4 x5 =
    VS0_2.read (Elt F) (VS0_2.writes (Elt F) VS0_2.junk (kept (runB arg2 harg2 arg4 harg4 arg6 harg6 x1 x3 x5 (zeroed arg11, zeroed arg12) 32).1 [⟨Rect.unit ![0, 0] S128x128.size inb_S128x128_S128x128_0_0, k0_pay2⟩])) from by sl_kernel_rfl, kept_read]
  simp only [runB_eq, zeroed_eq]

theorem scr3_A :
    sout0_A_3 c i arg1 harg1 arg2 harg2 arg3 harg3 arg4 harg4 arg5 harg5 arg6 harg6 arg7 harg7 arg8 harg8 arg9 harg9 arg10 harg10 arg11 harg11 arg12 harg12 hA x0 x1 x2 x3 x4 x5 = (bwd x1 x3 x5 (k0_pay2, k0_pay2) 32).2 := by
  rw [show sout0_A_3 c i arg1 harg1 arg2 harg2 arg3 harg3 arg4 harg4 arg5 harg5 arg6 harg6 arg7 harg7 arg8 harg8 arg9 harg9 arg10 harg10 arg11 harg11 arg12 harg12 hA x0 x1 x2 x3 x4 x5 =
    VS0_3.read (Elt F) (VS0_3.writes (Elt F) VS0_3.junk (kept (runB arg2 harg2 arg4 harg4 arg6 harg6 x1 x3 x5 (zeroed arg11, zeroed arg12) 32).2 [⟨Rect.unit ![0, 0] S128x128.size inb_S128x128_S128x128_0_0, k0_pay2⟩])) from by sl_kernel_rfl, kept_read]
  simp only [runB_eq, zeroed_eq]

end Run

end Cert.KernelIdeal.Val
-- ==== Proof.Cell.lean ====
module

public import proofs.«01_k».proof.Proof.Block
public import proofs.«01_k».proof.Proof.Gen.ReferenceIdeal.Run

/-! The kernel's cell is the reference's cell: the same gates, and the same two formulas of the gates. -/

@[expose] public section

set_option maxRecDepth 16384

noncomputable section

namespace Cert.KernelIdeal.Val

open Idealize.ShloMosaic Idealize.ShloMosaic.TcCoe Idealize.SL.Sem Cert.KernelIdeal Cert.KernelIdeal.Gen

/-- The reference's sigmoid: one over one plus the exponential of the negation. -/
def sig1 (x : FVec Ideal S128x128 .f32) : FVec Ideal S128x128 .f32 :=
  Host.divf (broadcastInDim S128x128 ![] Cert.ReferenceIdeal.Gen.bcast_S_S128x128 (constant Cert.ReferenceIdeal.S_ .f32 0x3F800000#32))
    (addf (broadcastInDim S128x128 ![] Cert.ReferenceIdeal.Gen.bcast_S_S128x128 (constant Cert.ReferenceIdeal.S_ .f32 0x3F800000#32))
      (Host.exp (Host.negf x)))

/-- The reference's new cell vectors, of the gates and the old ones. -/
def newC (g : FVec Ideal S128x512 .f32) (c : FVec Ideal S128x128 .f32) : FVec Ideal S128x128 .f32 :=
  addf (mulf (sig1 (extractStridedSlice S128x128 ![0, 128] g Cert.ReferenceIdeal.Gen.slices_S128x512_S128x128_0_128)) c)
    (mulf (sig1 (extractStridedSlice S128x128 ![0, 0] g Cert.ReferenceIdeal.Gen.slices_S128x512_S128x128_0_0))
      (Host.tanh (extractStridedSlice S128x128 ![0, 256] g Cert.ReferenceIdeal.Gen.slices_S128x512_S128x128_0_256)))

/-- The reference's new hidden vectors. -/
def newH (g : FVec Ideal S128x512 .f32) (c : FVec Ideal S128x128 .f32) : FVec Ideal S128x128 .f32 :=
  mulf (sig1 (extractStridedSlice S128x128 ![0, 384] g Cert.ReferenceIdeal.Gen.slices_S128x512_S128x128_0_384)) (Host.tanh (newC g c))

theorem pay19_eq (W : FVec Ideal S256x512 .f32) (b : FVec Ideal S1x512 .f32) (c h : FVec Ideal S128x128 .f32)
    (x : Vec Ideal S1x128x128 .f32) : k0_pay19 W b c h x = newC (k0_pay18 W b h x) c := by
  unfold k0_pay19
  generalize k0_pay18 W b h x = g
  funext j
  idx_vars j
  pointwise [newC, sig1]
  rfl

theorem pay20_eq (W : FVec Ideal S256x512 .f32) (b : FVec Ideal S1x512 .f32) (c h : FVec Ideal S128x128 .f32)
    (x : Vec Ideal S1x128x128 .f32) : k0_pay20 W b c h x = newH (k0_pay18 W b h x) c := by
  unfold k0_pay20
  rw [pay19_eq]
  generalize k0_pay18 W b h x = g
  funext j
  idx_vars j
  pointwise [newH, sig1]
  rfl

/-- The stacked weights: the hidden states' block over the inputs' block. -/
def stack (whh wih : FVec Ideal S512x128 .f32) : FVec Ideal S256x512 .f32 :=
  concatenate S256x512 0 [⟨S128x512, transpose S128x512 [1, 0] whh transposes_S512x128_S128x512_1_0⟩,
    ⟨S128x512, transpose S128x512 [1, 0] wih transposes_S512x128_S128x512_1_0⟩] concatenates_S128x512_S128x512_S256x512_d0

/-- The two biases' sum as one row. -/
def biasRow (bi bh : FVec Ideal S512 .f32) : FVec Ideal S1x512 .f32 := shapeCast S1x512 (addf bi bh) shapeCasts_S512_S1x512

theorem gate_eq (whh wih : FVec Ideal S512x128 .f32) (bi bh : FVec Ideal S512 .f32) (h : FVec Ideal S128x128 .f32)
    (x : Vec Ideal S1x128x128 .f32) (p : Fin 128) (g : Fin 512) :
    k0_pay18 (stack whh wih) (biasRow bi bh) h x (ix2 p g)
      = ((∑ e : Fin 128, x (ix3 0 p e) * wih (ix2 g e)) + bi (ix1 g) + bh (ix1 g)) + ∑ k : Fin 128, h (ix2 p k) * whh (ix2 g k) := by
  pointwise [k0_pay18, stack, biasRow]
  rw [add_comm, add_assoc, add_comm (∑ k, _), ← add_assoc, ← add_assoc]
  ac_rfl

end Cert.KernelIdeal.Val
-- ==== Proof.Array.lean ====
module

public import proofs.«01_k».proof.Proof.Block
public import Idealize.ShloMosaic.Lib.Pipeline.ValueKit

/-! What the kernel's two result arrays hold: each direction's hidden states, from one state carried over the grid. -/

@[expose] public section

set_option maxRecDepth 16384

noncomputable section

namespace Cert.KernelIdeal.Val

open Idealize.ShloMosaic Idealize.ShloMosaic.TcCoe Idealize.SL.Sem Cert.KernelIdeal Cert.KernelIdeal.Gen
open Idealize.ShloMosaic.Pipeline (Dat)

/-- Steps compose: `a` steps, then `n` more on the rows from `a` on. -/
theorem steps_add {F : FTy → Type} [FloatOps F] (W : FVec F S256x512 .f32) (b : FVec F S1x512 .f32)
    (row : ℕ → Vec F S1x128x128 .f32) (s : HC F) (a : ℕ) :
    ∀ n, steps W b row s (a + n) = steps W b (fun k => row (a + k)) (steps W b row s a) n
  | 0 => rfl
  | n + 1 => congrArg (cell W b (row (a + n))) (steps_add W b row s a n)

/-- The first `n` steps read the first `n` rows only. -/
theorem steps_congr {F : FTy → Type} [FloatOps F] (W : FVec F S256x512 .f32) (b : FVec F S1x512 .f32)
    (row row' : ℕ → Vec F S1x128x128 .f32) (s : HC F) :
    ∀ n, (∀ k, k < n → row k = row' k) → steps W b row s n = steps W b row' s n
  | 0, _ => rfl
  | n + 1, h => by
    show cell W b (row n) _ = cell W b (row' n) _
    rw [h n (Nat.lt_succ_self n), steps_congr W b row row' s n fun k hk => h k (Nat.lt_succ_of_lt hk)]

/-- Time step `n` of the inputs. -/
def timeRow (X : Vec Ideal S512x128x128 .f32) (n : ℕ) : Vec Ideal S1x128x128 .f32 :=
  fun j => X (ix3 ⟨n % 512, Nat.mod_lt _ (by decide)⟩ (j 1) (j 2))

variable (m : (ℓ : Loc nD τ sig) → Buf (Elt Ideal) ℓ)

/-- Every window's block index at every grid point: the backward windows run from the array's end. -/
theorem idx : ∀ t : Fin cfg0.N, win0_0.index t = ![t.val, 0, 0] ∧ win0_1.index t = ![15 - t.val, 0, 0]
    ∧ win0_2.index t = ![0, 0] ∧ win0_3.index t = ![0, 0] ∧ win0_4.index t = ![0, 0] ∧ win0_5.index t = ![0, 0]
    ∧ win0_6.index t = ![t.val, 0, 0] ∧ win0_7.index t = ![15 - t.val, 0, 0] :=
  (by decide +kernel : ∀ t : Fin grid0.N, _)

theorem points (t : Fin cfg0.N) : t.val < 16 := lt_of_lt_of_eq t.isLt (by decide +kernel)

/-- The inputs as the launch finds them. -/
abbrev xs (c : Dev nD) : Vec Ideal S512x128x128 .f32 := V m c main_arg0
/-- The forward weights, the two blocks stacked. -/
abbrev wf (c : Dev nD) : Vec Ideal S256x512 .f32 := V m c main_v6
/-- The backward weights. -/
abbrev wb (c : Dev nD) : Vec Ideal S256x512 .f32 := V m c main_v9
/-- The forward bias. -/
abbrev bf (c : Dev nD) : Vec Ideal S1x512 .f32 := V m c main_v1
/-- The backward bias. -/
abbrev bb (c : Dev nD) : Vec Ideal S1x512 .f32 := V m c main_v3

theorem blk2 (c : Dev nD) (t : Fin cfg0.N) : iblk m c 2 t = wf m c := by
  funext j; blk_simp [iblk]; exact congrArg (wf m c) (by blk_ext [idx t])
theorem blk3 (c : Dev nD) (t : Fin cfg0.N) : iblk m c 3 t = wb m c := by
  funext j; blk_simp [iblk]; exact congrArg (wb m c) (by blk_ext [idx t])
theorem blk4 (c : Dev nD) (t : Fin cfg0.N) : iblk m c 4 t = bf m c := by
  funext j; blk_simp [iblk]; exact congrArg (bf m c) (by blk_ext [idx t])
theorem blk5 (c : Dev nD) (t : Fin cfg0.N) : iblk m c 5 t = bb m c := by
  funext j; blk_simp [iblk]; exact congrArg (bb m c) (by blk_ext [idx t])

theorem row0 (c : Dev nD) (t : Fin cfg0.N) (k : ℕ) (hk : k < 32) :
    rowV (iblk m c 0 t) k = timeRow (xs m c) (32 * t.val + k) := by
  have ht := points t
  funext j
  unfold rowV timeRow
  blk_simp [iblk]
  refine congrArg (xs m c) (funext fun a => Fin.ext ?_)
  match a with
  | 0 => blk_simp [idx t]; show t.val * 32 + k % 32 = (32 * t.val + k) % 512; omega
  | 1 => blk_simp [idx t]
  | 2 => blk_simp [idx t]

theorem row1 (c : Dev nD) (t : Fin cfg0.N) (k : ℕ) (hk : k < 32) :
    rowV (iblk m c 1 t) (31 - k) = timeRow (xs m c) (511 - (32 * t.val + k)) := by
  have ht := points t
  funext j
  unfold rowV timeRow
  blk_simp [iblk]
  refine congrArg (xs m c) (funext fun a => Fin.ext ?_)
  match a with
  | 0 => blk_simp [idx t]; show (15 - t.val) * 32 + (31 - k) % 32 = (511 - (32 * t.val + k)) % 512; omega
  | 1 => blk_simp [idx t]
  | 2 => blk_simp [idx t]

/-- Both vectors of a state zero, as the kernel's first point stores them. -/
abbrev start : HC Ideal := (k0_pay2, k0_pay2)

/-- The forward state after `n` time steps. -/
abbrev stF (c : Dev nD) (n : ℕ) : HC Ideal := steps (wf m c) (bf m c) (timeRow (xs m c)) start n
/-- The backward state after `n` time steps, from the last input on. -/
abbrev stB (c : Dev nD) (n : ℕ) : HC Ideal := steps (wb m c) (bb m c) (fun k => timeRow (xs m c) (511 - k)) start n

theorem fwd_eq (c : Dev nD) (t : Fin cfg0.N) (n : ℕ) (hn : n ≤ 32) :
    fwd (iblk m c 0 t) (iblk m c 2 t) (iblk m c 4 t) (stF m c (32 * t.val)) n = stF m c (32 * t.val + n) := by
  rw [blk2, blk4]
  exact (steps_congr _ _ _ _ _ n fun k hk => row0 m c t k (by omega)).trans (steps_add _ _ _ _ _ n).symm

theorem bwd_eq (c : Dev nD) (t : Fin cfg0.N) (n : ℕ) (hn : n ≤ 32) :
    bwd (iblk m c 1 t) (iblk m c 3 t) (iblk m c 5 t) (stB m c (32 * t.val)) n = stB m c (32 * t.val + n) := by
  rw [blk3, blk5]
  exact (steps_congr _ _ _ _ _ n fun k hk => row1 m c t k (by omega)).trans
    (steps_add (wb m c) (bb m c) (fun k => timeRow (xs m c) (511 - k)) start (32 * t.val) n).symm

/-- After a first point the carried buffers hold the states after its thirty-two steps. -/
theorem carried_A (c : Dev nD) (t : Fin cfg0.N) (h0 : t.val % 16 = 0) :
    ((outsAt0 m c t.val t.isLt).2.2.1, (outsAt0 m c t.val t.isLt).2.2.2.1) = stF m c (32 * (t.val + 1))
      ∧ ((outsAt0 m c t.val t.isLt).2.2.2.2.1, (outsAt0 m c t.val t.isLt).2.2.2.2.2) = stB m c (32 * (t.val + 1)) := by
  have ht := points t
  have hz : t.val = 0 := by omega
  have eF := fwd_eq m c t 32 (Nat.le_refl _)
  have eB := bwd_eq m c t 32 (Nat.le_refl _)
  rw [show stF m c (32 * t.val) = start by rw [hz]; rfl] at eF
  rw [show stB m c (32 * t.val) = start by rw [hz]; rfl] at eB
  rw [outsAt0_A m c t h0]
  dsimp only
  rw [scr0_A, scr1_A, scr2_A, scr3_A]
  exact ⟨eF, eB⟩

/-- After a later point they hold the states its thirty-two steps reach from what the point before left. -/
theorem carried_B (c : Dev nD) (t : Fin cfg0.N) (h0 : ¬t.val % 16 = 0)
    (ihF : ((outsAt0 m c (t.val - 1) (Nat.lt_of_le_of_lt (Nat.sub_le _ _) t.isLt)).2.2.1,
      (outsAt0 m c (t.val - 1) (Nat.lt_of_le_of_lt (Nat.sub_le _ _) t.isLt)).2.2.2.1) = stF m c (32 * t.val))
    (ihB : ((outsAt0 m c (t.val - 1) (Nat.lt_of_le_of_lt (Nat.sub_le _ _) t.isLt)).2.2.2.2.1,
      (outsAt0 m c (t.val - 1) (Nat.lt_of_le_of_lt (Nat.sub_le _ _) t.isLt)).2.2.2.2.2) = stB m c (32 * t.val)) :
    ((outsAt0 m c t.val t.isLt).2.2.1, (outsAt0 m c t.val t.isLt).2.2.2.1) = stF m c (32 * (t.val + 1))
      ∧ ((outsAt0 m c t.val t.isLt).2.2.2.2.1, (outsAt0 m c t.val t.isLt).2.2.2.2.2) = stB m c (32 * (t.val + 1)) := by
  have eF := fwd_eq m c t 32 (Nat.le_refl _)
  have eB := bwd_eq m c t 32 (Nat.le_refl _)
  rw [outsAt0_B m c t h0]
  dsimp only
  rw [scr0_B, scr1_B, scr2_B, scr3_B, ihF, ihB]
  exact ⟨eF, eB⟩

/-- What the four carried buffers hold after every point. -/
theorem held (c : Dev nD) : ∀ (n : ℕ) (hn : n < cfg0.N),
    ((outsAt0 m c n hn).2.2.1, (outsAt0 m c n hn).2.2.2.1) = stF m c (32 * (n + 1))
      ∧ ((outsAt0 m c n hn).2.2.2.2.1, (outsAt0 m c n hn).2.2.2.2.2) = stB m c (32 * (n + 1))
  | 0, hn => carried_A m c ⟨0, hn⟩ (Nat.zero_mod _)
  | n + 1, hn => by
    have h16 := points ⟨n + 1, hn⟩
    obtain ⟨iF, iB⟩ := held c n (Nat.lt_of_succ_lt hn)
    exact carried_B m c ⟨n + 1, hn⟩ (by show ¬ (n + 1) % 16 = 0; have : n + 1 < 16 := h16; omega) iF iB

/-- What a point leaves in its two output blocks. -/
theorem blocks (c : Dev nD) (t : Fin cfg0.N) (r : Fin 32) (p q : Fin 128) :
    (outsAt0 m c t.val t.isLt).1 (ix3 r p q) = outRow (stF m c (32 * t.val + (r.val + 1))).1 (ix3 0 p q)
      ∧ (outsAt0 m c t.val t.isLt).2.1 (ix3 r p q) = outRow (stB m c (32 * t.val + (31 - r.val + 1))).1 (ix3 0 p q) := by
  have ht := points t
  have eF := fwd_eq m c t (r.val + 1) (by omega)
  have eB := bwd_eq m c t (31 - r.val + 1) (by omega)
  rw [← eF, ← eB]
  by_cases h0 : t.val % 16 = 0
  · have hz : t.val = 0 := by omega
    rw [outsAt0_A m c t h0]
    dsimp only
    rw [out6_A, out7_A, show stF m c (32 * t.val) = start by rw [hz]; rfl, show stB m c (32 * t.val) = start by rw [hz]; rfl]
    exact ⟨rfl, rfl⟩
  · have h' : t.val - 1 + 1 = t.val := by omega
    obtain ⟨iF, iB⟩ := held m c (t.val - 1) (Nat.lt_of_le_of_lt (Nat.sub_le _ _) t.isLt)
    rw [h'] at iF iB
    rw [outsAt0_B m c t h0]
    dsimp only
    rw [out6_B, out7_B, iF, iB]
    exact ⟨rfl, rfl⟩

/-- The forward result array: the state after each time step. -/
theorem final6 (c : Dev nD) : (dats m 0 c).arrAt 6 cfg0.N
    = fun i : S512x128x128.Idx => outRow (stF m c ((i 0).val + 1)).1 (ix3 0 (i 1) (i 2)) := by
  refine (dats m 0 c).arrAt_eq_of_covers 6 _ (by decide +kernel) fun t _ y => ?_
  blk_simp
  rw [after0_6]
  idx_vars y
  refine (blocks m c t y0 y1 y2).1.trans ?_
  have ht := points t
  have e0 : win0_6.index t 0 = t.val := by rw [(idx t).2.2.2.2.2.2.1]; rfl
  rw [e0]
  refine (congrArg (fun n => outRow (stF m c n).1 (ix3 0 y1 y2)) (by omega)).trans
    (congrArg (outRow (stF m c _).1) ?_)
  blk_ext [idx t]

/-- The backward result array: time step `i` holds the state after the steps from the last input down to it. -/
theorem final7 (c : Dev nD) : (dats m 0 c).arrAt 7 cfg0.N
    = fun i : S512x128x128.Idx => outRow (stB m c (511 - (i 0).val + 1)).1 (ix3 0 (i 1) (i 2)) := by
  refine (dats m 0 c).arrAt_eq_of_covers 7 _ (by decide +kernel) fun t _ y => ?_
  blk_simp
  rw [after0_7]
  idx_vars y
  refine (blocks m c t y0 y1 y2).2.trans ?_
  have ht := points t
  have e0 : win0_7.index t 0 = 15 - t.val := by rw [(idx t).2.2.2.2.2.2.2]; rfl
  rw [e0]
  refine (congrArg (fun n => outRow (stB m c n).1 (ix3 0 y1 y2)) (by omega)).trans
    (congrArg (outRow (stB m c _).1) ?_)
  blk_ext [idx t]

end Cert.KernelIdeal.Val
-- ==== Proof.Loop.lean ====
module

public import proofs.«01_k».proof.Proof.Cell
public import proofs.«01_k».proof.Proof.Array
public import Idealize.ShloMosaic.Lib.DynamicIndex

/-! The reference's scan: after `k` trips it carries the state after `k` steps, in both directions, and the states of
the steps so far. -/

@[expose] public section

set_option maxRecDepth 16384

noncomputable section

namespace Cert.ReferenceIdeal.Val

open Idealize.ShloMosaic Idealize.ShloMosaic.TcCoe Idealize.SL.Sem Idealize.ShloMosaic.StableHlo
open Cert.ReferenceIdeal Cert.ReferenceIdeal.Gen Cert.ReferenceIdeal.Value
open Cert.KernelIdeal.Val (steps cell stack biasRow timeRow start newC newH HC outRow)

/-- The scan's counter as a word stands for the number of the trip. -/
theorem count (k : ℕ) (hk : k < 512) : (Scf.iv (0#32) 1#32 k).toInt = k := by
  have h : Scf.iv (0#32) 1#32 k = BitVec.ofNat 32 k := by simp [Scf.iv]
  rw [h, BitVec.toInt_ofNat']
  have : k % 2 ^ 32 = k := Nat.mod_eq_of_lt (by omega)
  rw [Int.bmod_def]; omega

/-- One time step of a stack, read at the counter. -/
theorem slab_get {α : Type} (x : S512x128x512.Idx → α) (s : Fin 3 → Int) (h : S512x128x512.Slices (fun _ => 0) S1x128x512)
    (k : ℕ) (hk : k < 512) (h0 : s 0 = k) (h1 : s 1 = 0) (h2 : s 2 = 0) (a : Fin 1) (p : Fin 128) (g : Fin 512) :
    Host.dynamicSlice S1x128x512 x s h (ix3 a p g) = x (ix3 ⟨k, hk⟩ p g) := by
  rw [Host.dynamicSlice_apply]
  refine congrArg x (funext fun d => Fin.ext ?_)
  have ha : a.val = 0 := by omega
  fin_cases d
  · show Host.clampedStart S512x128x512 S1x128x512 h.1 s 0 + a.val = k
    rw [Host.clampedStart_of_le h.1 s 0 k h0 (by show k + 1 ≤ 512; omega)]; omega
  · show Host.clampedStart S512x128x512 S1x128x512 h.1 s 1 + p.val = p.val
    rw [Host.clampedStart_of_le h.1 s 1 0 h1 (by show 0 + 128 ≤ 128; omega)]; omega
  · show Host.clampedStart S512x128x512 S1x128x512 h.1 s 2 + g.val = g.val
    rw [Host.clampedStart_of_le h.1 s 2 0 h2 (by show 0 + 512 ≤ 512; omega)]; omega

/-- One time step written into a stack at the counter. -/
theorem slab_put {α : Type} (x : S512x128x128.Idx → α) (u : S1x128x128.Idx → α) (s : Fin 3 → Int)
    (h : S512x128x128.Slices (fun _ => 0) S1x128x128)
    (k : ℕ) (hk : k < 512) (h0 : s 0 = k) (h1 : s 1 = 0) (h2 : s 2 = 0) (i : Fin 512) (p q : Fin 128) :
    Host.dynamicUpdateSlice x u s h (ix3 i p q) = if i.val = k then u (ix3 0 p q) else x (ix3 i p q) := by
  have e0 : Host.clampedStart S512x128x128 S1x128x128 h.1 s 0 = k :=
    Host.clampedStart_of_le h.1 s 0 k h0 (by show k + 1 ≤ 512; omega)
  have e1 : Host.clampedStart S512x128x128 S1x128x128 h.1 s 1 = 0 :=
    Host.clampedStart_of_le h.1 s 1 0 h1 (by show 0 + 128 ≤ 128; omega)
  have e2 : Host.clampedStart S512x128x128 S1x128x128 h.1 s 2 = 0 :=
    Host.clampedStart_of_le h.1 s 2 0 h2 (by show 0 + 128 ≤ 128; omega)
  rw [Host.dynamicUpdateSlice_apply]
  by_cases hik : i.val = k
  · rw [if_pos hik, dif_pos]
    · refine congrArg u (funext fun d => Fin.ext ?_)
      fin_cases d
      · show i.val - Host.clampedStart S512x128x128 S1x128x128 h.1 s 0 = 0
        rw [e0]; omega
      · show p.val - Host.clampedStart S512x128x128 S1x128x128 h.1 s 1 = p.val
        rw [e1]; omega
      · show q.val - Host.clampedStart S512x128x128 S1x128x128 h.1 s 2 = q.val
        rw [e2]; omega
    · intro d
      fin_cases d
      · show Host.clampedStart S512x128x128 S1x128x128 h.1 s 0 ≤ i.val ∧ i.val < Host.clampedStart S512x128x128 S1x128x128 h.1 s 0 + 1
        rw [e0]; omega
      · show Host.clampedStart S512x128x128 S1x128x128 h.1 s 1 ≤ p.val ∧ p.val < Host.clampedStart S512x128x128 S1x128x128 h.1 s 1 + 128
        rw [e1]; omega
      · show Host.clampedStart S512x128x128 S1x128x128 h.1 s 2 ≤ q.val ∧ q.val < Host.clampedStart S512x128x128 S1x128x128 h.1 s 2 + 128
        rw [e2]; omega
  · rw [if_neg hik, dif_neg]
    intro hall
    have := hall 0
    change Host.clampedStart S512x128x128 S1x128x128 h.1 s 0 ≤ i.val ∧ i.val < Host.clampedStart S512x128x128 S1x128x128 h.1 s 0 + 1 at this
    rw [e0] at this; omega

variable (E : Valuation τ sig (Elt Ideal))

/-- The forward projections a valuation holds. -/
abbrev pF : FVec Ideal S512x128x512 .f32 := E (Proc.devRef .tc main_v18_0)
/-- The backward projections. -/
abbrev pB : FVec Ideal S512x128x512 .f32 := E (Proc.devRef .tc main_v18_1)
/-- The forward recurrent weights. -/
abbrev uF : FVec Ideal S512x128 .f32 := E (Proc.devRef .tc main_v18_2)
/-- The backward recurrent weights. -/
abbrev uB : FVec Ideal S512x128 .f32 := E (Proc.devRef .tc main_v18_3)
/-- The forward state. -/
abbrev sF : HC Ideal := (E (Proc.devRef .tc main_v18_5), E (Proc.devRef .tc main_v18_6))
/-- The backward state. -/
abbrev sB : HC Ideal := (E (Proc.devRef .tc main_v18_7), E (Proc.devRef .tc main_v18_8))
/-- The forward states so far. -/
abbrev oF : FVec Ideal S512x128x128 .f32 := E (Proc.devRef .tc main_v18_9)
/-- The backward states so far. -/
abbrev oB : FVec Ideal S512x128x128 .f32 := E (Proc.devRef .tc main_v18_10)

theorem still (k : ℕ) : pF (STEP^[k] E) = pF E ∧ pB (STEP^[k] E) = pB E ∧ uF (STEP^[k] E) = uF E ∧ uB (STEP^[k] E) = uB E := by
  induction k with
  | zero => exact ⟨rfl, rfl, rfl, rfl⟩
  | succ k ih =>
    dsimp only [pF, pB, uF, uB]
    rw [Function.iterate_succ_apply', STEP_main_v18_0, STEP_main_v18_1, STEP_main_v18_2, STEP_main_v18_3]
    exact ih

theorem counter (h : E (Proc.devRef .tc main_v18_4) = fun _ => (0#32 : BitVec 32)) (k : ℕ) :
    (STEP^[k] E) (Proc.devRef .tc main_v18_4) = fun _ => Scf.iv (0#32) 1#32 k := by
  induction k with
  | zero => rw [Scf.iv_zero]; exact h
  | succ k ih =>
    rw [Function.iterate_succ_apply', STEP_main_v18_4, step_main_v18_4, ih, Scf.iv_succ]
    rfl

/-- The start of a trip's slices: the counter, then zeros. -/
abbrev starts : Fin 3 → Int := fun k => (((![E (Proc.devRef .tc main_v18_4), constantI S_ 32 0#32, constantI S_ 32 0#32] : Fin 3 → (⟨S_, .i32⟩ : BufTy).Contents (Elt Ideal))) k (Shape.Idx.first h_S_)).toInt

theorem starts_eq (k : ℕ) (hk : k < 512) (hc : E (Proc.devRef .tc main_v18_4) = fun _ => Scf.iv (0#32) 1#32 k) :
    starts E 0 = k ∧ starts E 1 = 0 ∧ starts E 2 = 0 := by
  refine ⟨?_, rfl, rfl⟩
  show ((E (Proc.devRef .tc main_v18_4) (Shape.Idx.first h_S_) : BitVec 32)).toInt = k
  rw [hc]; exact count k hk

/-- The forward gates of a trip. -/
theorem gateF (k : ℕ) (hk : k < 512) (hc : E (Proc.devRef .tc main_v18_4) = fun _ => Scf.iv (0#32) 1#32 k)
    (p : Fin 128) (g : Fin 512) : res_main_while0b_v26 E (ix2 p g)
      = pF E (ix3 ⟨k, hk⟩ p g) + ∑ e : Fin 128, (sF E).1 (ix2 p e) * uF E (ix2 g e) := by
  unfold res_main_while0b_v26
  obtain ⟨h0, h1, h2⟩ := starts_eq E k hk hc
  have key := slab_get (pF E) (starts E) sliceFits_S512x128x512_S1x128x512 k hk h0 h1 h2
  generalize Host.dynamicSlice S1x128x512 (pF E) (starts E) sliceFits_S512x128x512_S1x128x512 = y at key ⊢
  rw [← key 0 p g]
  pointwise []

/-- The backward gates of a trip. -/
theorem gateB (k : ℕ) (hk : k < 512) (hc : E (Proc.devRef .tc main_v18_4) = fun _ => Scf.iv (0#32) 1#32 k)
    (p : Fin 128) (g : Fin 512) : res_main_while0b_v57 E (ix2 p g)
      = pB E (ix3 ⟨k, hk⟩ p g) + ∑ e : Fin 128, (sB E).1 (ix2 p e) * uB E (ix2 g e) := by
  unfold res_main_while0b_v57
  obtain ⟨h0, h1, h2⟩ := starts_eq E k hk hc
  have key := slab_get (pB E) (starts E) sliceFits_S512x128x512_S1x128x512 k hk h0 h1 h2
  generalize Host.dynamicSlice S1x128x512 (pB E) (starts E) sliceFits_S512x128x512_S1x128x512 = y at key ⊢
  rw [← key 0 p g]
  pointwise []

theorem putF (k : ℕ) (hk : k < 512) (hc : E (Proc.devRef .tc main_v18_4) = fun _ => Scf.iv (0#32) 1#32 k)
    (i : Fin 512) (p q : Fin 128) : oF (STEP E) (ix3 i p q) = if i.val = k then (sF (STEP E)).1 (ix2 p q) else oF E (ix3 i p q) := by
  obtain ⟨h0, h1, h2⟩ := starts_eq E k hk hc
  dsimp only [oF, sF]
  rw [STEP_main_v18_9, STEP_main_v18_5]
  refine (slab_put _ _ (starts E) updateFits_S512x128x128_S1x128x128 k hk h0 h1 h2 i p q).trans ?_
  refine congrArg (fun z => if i.val = k then z else _) ?_
  unfold step_main_v18_5
  pointwise []
  rfl

theorem putB (k : ℕ) (hk : k < 512) (hc : E (Proc.devRef .tc main_v18_4) = fun _ => Scf.iv (0#32) 1#32 k)
    (i : Fin 512) (p q : Fin 128) : oB (STEP E) (ix3 i p q) = if i.val = k then (sB (STEP E)).1 (ix2 p q) else oB E (ix3 i p q) := by
  obtain ⟨h0, h1, h2⟩ := starts_eq E k hk hc
  dsimp only [oB, sB]
  rw [STEP_main_v18_10, STEP_main_v18_7]
  refine (slab_put _ _ (starts E) updateFits_S512x128x128_S1x128x128 k hk h0 h1 h2 i p q).trans ?_
  refine congrArg (fun z => if i.val = k then z else _) ?_
  unfold step_main_v18_7
  pointwise []
  rfl

theorem newF : sF (STEP E) = (newH (res_main_while0b_v26 E) (sF E).2, newC (res_main_while0b_v26 E) (sF E).2) := by
  dsimp only [sF]
  rw [STEP_main_v18_5, STEP_main_v18_6]
  rfl

theorem newB : sB (STEP E) = (newH (res_main_while0b_v57 E) (sB E).2, newC (res_main_while0b_v57 E) (sB E).2) := by
  dsimp only [sB]
  rw [STEP_main_v18_7, STEP_main_v18_8]
  rfl

/-- What a direction's projections are: the products of the time step's row with the input weights, and both biases. -/
def IsProj (P : FVec Ideal S512x128x512 .f32) (row : ℕ → Vec Ideal S1x128x128 .f32) (wih : FVec Ideal S512x128 .f32)
    (bi bh : FVec Ideal S512 .f32) : Prop :=
  ∀ (n : Fin 512) (p : Fin 128) (g : Fin 512),
    P (ix3 n p g) = (∑ e : Fin 128, row n.val (ix3 0 p e) * wih (ix2 g e)) + bi (ix1 g) + bh (ix1 g)

/-- One step of the reference is one step of the cell on the stacked weights. -/
theorem cell_eq (whh wih : FVec Ideal S512x128 .f32) (bi bh : FVec Ideal S512 .f32) (s : HC Ideal) (x : Vec Ideal S1x128x128 .f32)
    (G : FVec Ideal S128x512 .f32)
    (hG : ∀ (p : Fin 128) (g : Fin 512), G (ix2 p g) = ((∑ e : Fin 128, x (ix3 0 p e) * wih (ix2 g e)) + bi (ix1 g) + bh (ix1 g))
      + ∑ k : Fin 128, s.1 (ix2 p k) * whh (ix2 g k)) :
    (newH G s.2, newC G s.2) = cell (stack whh wih) (biasRow bi bh) x s := by
  have e : G = Cert.KernelIdeal.Gen.k0_pay18 (stack whh wih) (biasRow bi bh) s.1 x := by
    funext j
    idx_vars j
    rw [hG]
    exact (Cert.KernelIdeal.Val.gate_eq whh wih bi bh s.1 x j0 j1).symm
  unfold cell
  rw [Cert.KernelIdeal.Val.pay19_eq, Cert.KernelIdeal.Val.pay20_eq, e]

section Run

variable (hc : E (Proc.devRef .tc main_v18_4) = fun _ => (0#32 : BitVec 32))
include hc

theorem stateF (row : ℕ → Vec Ideal S1x128x128 .f32) (wih : FVec Ideal S512x128 .f32) (bi bh : FVec Ideal S512 .f32)
    (hP : IsProj (pF E) row wih bi bh) : ∀ k, k ≤ 512 →
    sF (STEP^[k] E) = steps (stack (uF E) wih) (biasRow bi bh) row (sF E) k
  | 0, _ => rfl
  | k + 1, hk => by
    rw [Function.iterate_succ_apply', newF]
    refine (cell_eq (uF E) wih bi bh (sF (STEP^[k] E)) (row k) _ fun p g => ?_).trans
      (congrArg (cell _ _ (row k)) (stateF row wih bi bh hP k (by omega)))
    rw [gateF (STEP^[k] E) k (by omega) (counter E hc k), (still E k).1, (still E k).2.2.1, hP]

theorem stateB (row : ℕ → Vec Ideal S1x128x128 .f32) (wih : FVec Ideal S512x128 .f32) (bi bh : FVec Ideal S512 .f32)
    (hP : IsProj (pB E) row wih bi bh) : ∀ k, k ≤ 512 →
    sB (STEP^[k] E) = steps (stack (uB E) wih) (biasRow bi bh) row (sB E) k
  | 0, _ => rfl
  | k + 1, hk => by
    rw [Function.iterate_succ_apply', newB]
    refine (cell_eq (uB E) wih bi bh (sB (STEP^[k] E)) (row k) _ fun p g => ?_).trans
      (congrArg (cell _ _ (row k)) (stateB row wih bi bh hP k (by omega)))
    rw [gateB (STEP^[k] E) k (by omega) (counter E hc k), (still E k).2.1, (still E k).2.2.2, hP]

theorem outF (i : Fin 512) (p q : Fin 128) : ∀ k, k ≤ 512 → i.val < k →
    oF (STEP^[k] E) (ix3 i p q) = (sF (STEP^[i.val + 1] E)).1 (ix2 p q)
  | 0, _, h => absurd h (Nat.not_lt_zero _)
  | k + 1, hk, h => by
    rw [Function.iterate_succ_apply', putF (STEP^[k] E) k (by omega) (counter E hc k)]
    by_cases e : i.val = k
    · rw [if_pos e, e, Function.iterate_succ_apply']
    · rw [if_neg e, outF i p q k (by omega) (by omega)]

theorem outB (i : Fin 512) (p q : Fin 128) : ∀ k, k ≤ 512 → i.val < k →
    oB (STEP^[k] E) (ix3 i p q) = (sB (STEP^[i.val + 1] E)).1 (ix2 p q)
  | 0, _, h => absurd h (Nat.not_lt_zero _)
  | k + 1, hk, h => by
    rw [Function.iterate_succ_apply', putB (STEP^[k] E) k (by omega) (counter E hc k)]
    by_cases e : i.val = k
    · rw [if_pos e, e, Function.iterate_succ_apply']
    · rw [if_neg e, outB i p q k (by omega) (by omega)]

end Run

variable (m : (ℓ : Loc nD τ sig) → Buf (Elt Ideal) ℓ)

theorem entryP (c : Dev nD) : IsProj (pF (entryContents preI m c)) (timeRow (m ((c.tc : Thread nD τ).loc main_arg0)))
    (m ((c.tc : Thread nD τ).loc main_arg1)) (m ((c.tc : Thread nD τ).loc main_arg3)) (m ((c.tc : Thread nD τ).loc main_arg4)) := by
  intro n p g
  dsimp only [pF]
  simp only [entryContents, afterL_cons, afterL_nil]
  after_reads_simp
  dsimp only [id]
  have hn : n.val % 512 = n.val := Nat.mod_eq_of_lt n.isLt
  pointwise [timeRow]
  have e : (⟨n.val % 512, Nat.mod_lt _ (by decide)⟩ : Fin 512) = n := Fin.ext hn
  rw [e]

theorem entryPB (c : Dev nD) : IsProj (pB (entryContents preI m c)) (fun k => timeRow (m ((c.tc : Thread nD τ).loc main_arg0)) (511 - k))
    (m ((c.tc : Thread nD τ).loc main_arg5)) (m ((c.tc : Thread nD τ).loc main_arg7)) (m ((c.tc : Thread nD τ).loc main_arg8)) := by
  intro n p g
  dsimp only [pB]
  simp only [entryContents, afterL_cons, afterL_nil]
  after_reads_simp
  dsimp only [id]
  have hn : (511 - n.val) % 512 = 511 - n.val := Nat.mod_eq_of_lt (by omega)
  pointwise [timeRow]
  have e : (⟨(511 - n.val) % 512, Nat.mod_lt _ (by decide)⟩ : Fin 512) = n.rev :=
    Fin.ext (hn.trans (by rw [Fin.val_rev]; omega))
  rw [e]
  rfl

theorem entryU (c : Dev nD) : uF (entryContents preI m c) = m ((c.tc : Thread nD τ).loc main_arg2)
    ∧ uB (entryContents preI m c) = m ((c.tc : Thread nD τ).loc main_arg6) := by
  dsimp only [uF, uB]
  simp only [entryContents, afterL_cons, afterL_nil]
  after_reads_simp
  exact ⟨rfl, rfl⟩

theorem entryS (c : Dev nD) : sF (entryContents preI m c) = start ∧ sB (entryContents preI m c) = start := by
  dsimp only [sF, sB]
  simp only [entryContents, afterL_cons, afterL_nil]
  after_reads_simp
  exact ⟨rfl, rfl⟩

/-- The reference's forward result: the state after each time step. -/
theorem refF (c : Dev nD) : out_main_v19 (STEP^[512] (entryContents preI m c)) = fun i : S512x128x128.Idx =>
    outRow (steps (stack (m ((c.tc : Thread nD τ).loc main_arg2)) (m ((c.tc : Thread nD τ).loc main_arg1)))
      (biasRow (m ((c.tc : Thread nD τ).loc main_arg3)) (m ((c.tc : Thread nD τ).loc main_arg4)))
      (timeRow (m ((c.tc : Thread nD τ).loc main_arg0))) start ((i 0).val + 1)).1 (ix3 0 (i 1) (i 2)) := by
  funext i
  idx_vars i
  have h := outF _ (Value.ctr_entry m c) i0 i1 i2 512 le_rfl i0.isLt
  rw [stateF _ (Value.ctr_entry m c) _ _ _ _ (entryP m c) _ (by omega), (entryU m c).1, (entryS m c).1] at h
  unfold out_main_v19
  dsimp only [outRow, Cert.KernelIdeal.Gen.k0_pay16]
  pointwise []
  exact h

/-- The reference's backward result. -/
theorem refB (c : Dev nD) : out_main_v21 (STEP^[512] (entryContents preI m c)) = fun i : S512x128x128.Idx =>
    outRow (steps (stack (m ((c.tc : Thread nD τ).loc main_arg6)) (m ((c.tc : Thread nD τ).loc main_arg5)))
      (biasRow (m ((c.tc : Thread nD τ).loc main_arg7)) (m ((c.tc : Thread nD τ).loc main_arg8)))
      (fun k => timeRow (m ((c.tc : Thread nD τ).loc main_arg0)) (511 - k)) start (511 - (i 0).val + 1)).1 (ix3 0 (i 1) (i 2)) := by
  funext i
  idx_vars i
  have h := outB _ (Value.ctr_entry m c) i0.rev i1 i2 512 le_rfl i0.rev.isLt
  rw [stateB _ (Value.ctr_entry m c) _ _ _ _ (entryPB m c) _ (by omega), (entryU m c).2, (entryS m c).2] at h
  have e : i0.rev.val = 511 - i0.val := by rw [Fin.val_rev]; omega
  rw [e] at h
  unfold out_main_v21
  dsimp only [outRow, Cert.KernelIdeal.Gen.k0_pay16]
  pointwise []
  exact h

end Cert.ReferenceIdeal.Val
-- ==== Proof.Equal.lean ====
module

public import proofs.«01_k».proof.Defs
public import proofs.«01_k».proof.Proof.Loop
public import proofs.«01_k».proof.Proof.Gen.Kernel
public import Idealize.ShloMosaic.Lib.Claim

/-! The kernel's two result arrays are the reference's: both hold the state after each time step, over the same weights,
biases and inputs. -/

@[expose] public section

set_option maxRecDepth 16384

noncomputable section

namespace Cert.Equal

open Idealize.ShloMosaic Idealize.ShloMosaic.TcCoe Idealize.SL.Sem
open Cert.KernelIdeal.Val

variable (m : (ℓ : Loc Cert.KernelIdeal.nD Cert.KernelIdeal.τ Cert.KernelIdeal.sig) → Buf (Elt Ideal) ℓ)

theorem wf_eq (c : Dev Cert.KernelIdeal.nD) : wf m c = stack (m ((c.tc : Thread Cert.KernelIdeal.nD Cert.KernelIdeal.τ).loc Cert.KernelIdeal.main_arg2))
    (m ((c.tc : Thread Cert.KernelIdeal.nD Cert.KernelIdeal.τ).loc Cert.KernelIdeal.main_arg1)) := by
  dsimp only [wf]
  entry_read
  rfl

theorem wb_eq (c : Dev Cert.KernelIdeal.nD) : wb m c = stack (m ((c.tc : Thread Cert.KernelIdeal.nD Cert.KernelIdeal.τ).loc Cert.KernelIdeal.main_arg6))
    (m ((c.tc : Thread Cert.KernelIdeal.nD Cert.KernelIdeal.τ).loc Cert.KernelIdeal.main_arg5)) := by
  dsimp only [wb]
  entry_read
  rfl

theorem bf_eq (c : Dev Cert.KernelIdeal.nD) : bf m c = biasRow (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) := by
  dsimp only [bf]
  entry_read
  rfl

theorem bb_eq (c : Dev Cert.KernelIdeal.nD) : bb m c = biasRow (m ((c.tc : Thread Cert.KernelIdeal.nD Cert.KernelIdeal.τ).loc Cert.KernelIdeal.main_arg7))
    (m ((c.tc : Thread Cert.KernelIdeal.nD Cert.KernelIdeal.τ).loc Cert.KernelIdeal.main_arg8)) := by
  dsimp only [bb]
  entry_read
  rfl

/-- The reference's arguments and results are all it changes or keeps, and it has no semaphore. -/
theorem frameR : Cert.quiescent_ReferenceIdeal := fun m g _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m g)

theorem algebraic : Cert.algebraic_KernelIdeal_ReferenceIdeal := by
  intro m g m' g' _ hagree
  refine ⟨_, _, Cert.KernelIdeal.Value.run_blocks (F := Ideal) m g, ?_⟩
  refine (θ_run Cert.ReferenceIdeal.defs _ _).mono (fun r h c => ?_) (Cert.ReferenceIdeal.Value.run (F := Ideal) m' g')
  obtain ⟨a0, a1, a2, a3, a4, a5, a6, a7, a8⟩ := hagree c
  obtain ⟨h0, h1, hr⟩ := h c
  refine ⟨h0.trans ?_, h1.trans ?_, hr⟩
  · refine (Cert.ReferenceIdeal.Val.refF m' c).trans (Eq.trans ?_ (final6 m c).symm)
    dsimp only [stF, xs]
    rw [wf_eq, bf_eq, Cert.KernelIdeal.Gen.V_main_arg0, a0, a1, a2, a3, a4]
  · refine (Cert.ReferenceIdeal.Val.refB m' c).trans (Eq.trans ?_ (final7 m c).symm)
    dsimp only [stB, xs]
    rw [wb_eq, bb_eq, Cert.KernelIdeal.Gen.V_main_arg0, a0, a5, a6, a7, a8]

end Cert.Equal
-- ==== Proof.CrfReal.lean ====
module

public import Idealize.ShloMosaic.Lib.Pointwise
public import Mathlib.Analysis.SpecialFunctions.Log.Basic

/-! The loss of a conditional random field over the real numbers: the recursion of the forward sums and of the tagged path's score,
and the facts about sums of exponentials that the kernel and the reference share. -/

@[expose] public section

noncomputable section

namespace Cert.Crf

open Finset

/-- What the field is made of: emissions by time and sequence, transitions, the two ends, and the tags. -/
structure Field where
  em : ℕ → Fin 128 → Fin 17 → ℝ
  tr : Fin 17 → Fin 17 → ℝ
  st : Fin 17 → ℝ
  en : Fin 17 → ℝ
  tag : ℕ → Fin 128 → Fin 17

variable (P : Field)

/-- The logarithm of the sum over all paths of `t + 1` states that end in state `j`. -/
def Field.alpha (P : Field) : ℕ → Fin 128 → Fin 17 → ℝ
  | 0, b, j => P.st j + P.em 0 b j
  | t + 1, b, j => Real.log (∑ i, Real.exp (Field.alpha P t b i + P.tr i j + P.em (t + 1) b j))

/-- The score of the tagged path up to time `t`. -/
def Field.score (P : Field) : ℕ → Fin 128 → ℝ
  | 0, b => P.st (P.tag 0 b) + P.em 0 b (P.tag 0 b)
  | t + 1, b => Field.score P t b + (P.tr (P.tag t b) (P.tag (t + 1) b) + P.em (t + 1) b (P.tag (t + 1) b))

/-- The log-likelihood of sequence `b`'s tags. -/
def Field.llh (b : Fin 128) : ℝ :=
  P.score 511 b + P.en (P.tag 511 b) - Real.log (∑ j, Real.exp (P.alpha 511 b j + P.en j))

/-- The mean negative log-likelihood. -/
def Field.loss : ℝ := -((∑ b, P.llh b) / 128)

theorem sum_exp_pos (f : Fin 17 → ℝ) : 0 < ∑ i, Real.exp (f i) :=
  sum_pos (fun i _ => Real.exp_pos _) ⟨0, mem_univ _⟩

/-- One step of the weights: the forward sums divided by `exp L` stay the forward sums divided by `exp L`. -/
theorem weigh_real (t : ℕ) (b : Fin 128) (j : Fin 17) (L : ℝ) :
    (∑ i, Real.exp (P.alpha t b i - L) * Real.exp (P.tr i j)) * Real.exp (P.em (t + 1) b j)
      = Real.exp (P.alpha (t + 1) b j - L) := by
  show _ = Real.exp (Real.log _ - L)
  rw [Real.exp_sub, Real.exp_log (sum_exp_pos _), sum_mul, sum_div]
  refine sum_congr rfl fun i _ => ?_
  rw [← Real.exp_add, ← Real.exp_add, ← Real.exp_sub]
  congr 1; ring

/-- Dividing by a positive number moves its logarithm. -/
theorem norm_real (a L r : ℝ) (hr : 0 < r) : Real.exp (a - L) * (1 / r) = Real.exp (a - (L + Real.log r)) := by
  rw [show a - (L + Real.log r) = a - L - Real.log r by ring, Real.exp_sub (a - L), Real.exp_log hr]; ring

/-- The partition sum from weights divided by `exp L`. -/
theorem final_real (t : ℕ) (b : Fin 128) (L : ℝ) :
    L + Real.log (∑ j, Real.exp (P.alpha t b j - L) * Real.exp (P.en j)) = Real.log (∑ j, Real.exp (P.alpha t b j + P.en j)) := by
  rw [show (∑ j, Real.exp (P.alpha t b j - L) * Real.exp (P.en j)) = (∑ j, Real.exp (P.alpha t b j + P.en j)) / Real.exp L from ?_,
    Real.log_div (sum_exp_pos _).ne' (Real.exp_pos _).ne', Real.log_exp]
  · ring
  · rw [sum_div]
    refine sum_congr rfl fun i _ => ?_
    rw [← Real.exp_add, ← Real.exp_sub]; congr 1; ring

/-- The logarithm of a sum of exponentials, taken with the terms shifted by `M`. -/
theorem shift_real (f : Fin 17 → ℝ) (M : ℝ) : Real.log (∑ i, Real.exp (f i - M)) + M = Real.log (∑ i, Real.exp (f i)) := by
  rw [show (∑ i, Real.exp (f i - M)) = (∑ i, Real.exp (f i)) / Real.exp M by
      rw [sum_div]; exact sum_congr rfl fun i _ => Real.exp_sub _ _,
    Real.log_div (sum_exp_pos _).ne' (Real.exp_pos _).ne', Real.log_exp]
  ring

/-- A function of the seventeen states on the 128 lanes, zero on the others. -/
def lanes (f : Fin 17 → ℝ) (j : Fin 128) : ℝ := if h : j.val < 17 then f ⟨j.val, h⟩ else 0

theorem lanes_lt (f : Fin 17 → ℝ) (j : Fin 128) (h : j.val < 17) : lanes f j = f ⟨j.val, h⟩ := dif_pos h
theorem lanes_ge (f : Fin 17 → ℝ) (j : Fin 128) (h : ¬j.val < 17) : lanes f j = 0 := dif_neg h

/-- A sum over the lanes of a function that vanishes outside the states. -/
theorem sum_lanes (g : Fin 128 → ℝ) (f : Fin 17 → ℝ) (h : ∀ j : Fin 17, g ⟨j.val, by omega⟩ = f j)
    (h0 : ∀ j : Fin 128, ¬j.val < 17 → g j = 0) : ∑ j, g j = ∑ j, f j := by
  have := Fin.sum_univ_add (a := 17) (b := 111) g
  have e : ∑ i : Fin 17, g (Fin.castAdd 111 i) = ∑ j, f j := sum_congr rfl fun j _ => h j
  have z : ∑ i : Fin 111, g (Fin.natAdd 17 i) = 0 := sum_eq_zero fun i _ => h0 _ (by simp)
  refine this.trans ?_
  rw [e, z, add_zero]

/-- A sum against the indicator of one lane. -/
theorem sum_hot (g : Fin 128 → ℝ) (k : Fin 128) : ∑ j, g j * (if j = k then 1 else 0) = g k := by simp

theorem coe_sum {ι : Type} [Fintype ι] (f : ι → ℝ) : (∑ i, (f i : EReal)) = ((∑ i, f i : ℝ) : EReal) := by
  classical
  exact (map_sum (⟨⟨Real.toEReal, EReal.coe_zero⟩, EReal.coe_add⟩ : ℝ →+ EReal) f univ).symm

/-- The maximum of finitely many reals, from minus infinity, is one of them. -/
theorem max_real {ι : Type} [Fintype ι] [Nonempty ι] (f : ι → ℝ) :
    ∃ r : ℝ, (univ : Finset ι).fold max (⊥ : EReal) (fun i => (f i : EReal)) = (r : EReal) ∧ (∀ i, f i ≤ r) := by
  classical
  obtain ⟨k, -, hk⟩ := exists_max_image (univ : Finset ι) f ⟨Classical.arbitrary ι, mem_univ _⟩
  refine ⟨f k, le_antisymm ?_ ?_, fun i => hk i (mem_univ _)⟩
  · rw [Finset.fold_max_le]; exact ⟨bot_le, fun i _ => EReal.coe_le_coe_iff.2 (hk i (mem_univ _))⟩
  · rw [Finset.le_fold_max]; exact Or.inr ⟨k, mem_univ _, le_refl _⟩

/-- The loss's arguments as real numbers: the states of the two directions, the emission weights and bias, the transitions, the
first and last scores, and the tags. -/
structure Data where
  hf : ℕ → Fin 128 → Fin 128 → ℝ
  hb : ℕ → Fin 128 → Fin 128 → ℝ
  wf : Fin 17 → Fin 128 → ℝ
  wb : Fin 17 → Fin 128 → ℝ
  bias : Fin 17 → ℝ
  tr : Fin 17 → Fin 17 → ℝ
  st : Fin 17 → ℝ
  en : Fin 17 → ℝ
  tag : ℕ → Fin 128 → Fin 17

/-- The random field of the arguments: its emissions are linear in the states. -/
def Data.field (D : Data) : Field where
  em t b k := (∑ x, D.hf t b x * D.wf k x) + (∑ x, D.hb t b x * D.wb k x) + D.bias k
  tr := D.tr
  st := D.st
  en := D.en
  tag := D.tag

open Idealize.ShloMosaic in
/-- Arrays that hold these real numbers and tags. -/
structure Given (D : Data) (hf hb : Shape.Idx ⟨3, ![512, 128, 128]⟩ → EReal) (tags : Shape.Idx ⟨2, ![128, 512]⟩ → BitVec 32)
    (w : Shape.Idx ⟨2, ![17, 256]⟩ → EReal) (bias st en : Shape.Idx ⟨1, ![17]⟩ → EReal) (tr : Shape.Idx ⟨2, ![17, 17]⟩ → EReal) : Prop where
  hf : ∀ t b x, hf (ix3 t b x) = ((D.hf t.val b x : ℝ) : EReal)
  hb : ∀ t b x, hb (ix3 t b x) = ((D.hb t.val b x : ℝ) : EReal)
  tag : ∀ b t, tags (ix2 b t) = BitVec.ofNat 32 (D.tag t.val b).val
  wf : ∀ (k : Fin 17) (x : Fin 128), w (ix2 k ⟨x.val, by omega⟩) = ((D.wf k x : ℝ) : EReal)
  wb : ∀ (k : Fin 17) (x : Fin 128), w (ix2 k ⟨128 + x.val, by omega⟩) = ((D.wb k x : ℝ) : EReal)
  bias : ∀ k, bias (ix1 k) = ((D.bias k : ℝ) : EReal)
  st : ∀ k, st (ix1 k) = ((D.st k : ℝ) : EReal)
  en : ∀ k, en (ix1 k) = ((D.en k : ℝ) : EReal)
  tr : ∀ i k, tr (ix2 i k) = ((D.tr i k : ℝ) : EReal)

end Cert.Crf
-- ==== Proof.CrfGather.lean ====
module

public import Idealize.ShloMosaic.PureOps
public import proofs.«01_k».proof.Proof.CrfReal
public import Idealize.ShloMosaic.Lib.Tactic

/-! A gather of single elements: every row of the index table names one element of the operand, one coordinate per column. -/

@[expose] public section

noncomputable section

namespace Cert.Crf

open Idealize.ShloMosaic

/-- A small natural, as a signed word, is itself. -/
theorem word_int {k : ℕ} (h : k < 2 ^ 31) : (BitVec.ofNat 32 k).toInt = k := by
  rw [BitVec.toInt_ofNat']
  have : k % 2 ^ 32 = k := Nat.mod_eq_of_lt (by omega)
  rw [Int.bmod_def]; omega

/-- Row `p` of the table holds the coordinates of `i`: the gathered element is `i`'s. -/
theorem gather_point {α : Type} {s : Shape} {n : ℕ} (d : GatherDims s ⟨2, ![n, s.rank]⟩ ⟨1, ![n]⟩)
    (hc : d.collapsedSliceDims = List.finRange s.rank) (hob : d.operandBatchingDims = []) (hsim : d.startIndexMap = List.finRange s.rank)
    (hv : d.indexVectorDim = 1) (x : s.Idx → α) (idx : IVec ⟨2, ![n, s.rank]⟩ 32) (p : Fin n) (i : s.Idx)
    (hs : ∀ a, s.size a < 2 ^ 31) (h : ∀ a : Fin s.rank, idx (ix2 p a) = BitVec.ofNat 32 (i a).val) :
    Host.gather d x idx (ix1 p) = x i := by
  unfold Host.gather
  refine congrArg x (funext fun a => Fin.ext ?_)
  have hb : a ∉ d.operandBatchingDims := by rw [hob]; exact List.not_mem_nil
  have hk : a ∉ d.sKept := by rw [GatherDims.mem_sKept, hc]; simp
  have hm : a ∈ d.startIndexMap := by rw [hsim]; simp
  have hl : d.sliceSizes a = 1 := d.slice_collapsed a (by rw [hc]; simp)
  have at_ : ∀ q, q.val = a.val → d.siIdx (ix1 p) q = ix2 p a := by
    intro q hq
    funext b
    match b with
    | ⟨0, _⟩ =>
      unfold GatherDims.siIdx
      rw [dif_neg (by rw [hv]; simp)]
      unfold GatherDims.siCoord
      apply Fin.ext
      have e : ∀ y : Fin 1, ((ix1 p : (⟨1, ![n]⟩ : Shape).Idx) y).val = p.val := fun y => by
        rw [Subsingleton.elim y 0]; rfl
      exact e _
    | ⟨1, _⟩ =>
      unfold GatherDims.siIdx
      rw [dif_pos (by rw [hv])]
      exact Fin.ext hq
  simp only [GatherDims.operandIdx, GatherDims.batchCoord_eq_zero _ _ _ hb, GatherDims.offCoord_eq_zero _ _ _ hk, Nat.add_zero,
    GatherDims.start, dif_pos hm]
  rw [at_ _ (by simp [hsim]), h a, hl]
  have := (i a).isLt
  have := hs a
  rw [word_int (by omega)]
  omega

end Cert.Crf
-- ==== Proof.CrfTrip.lean ====
module

public import proofs.«01_k».proof.Proof.Gen.Reference2Ideal.Run
public import proofs.«01_k».proof.Proof.CrfGather
public import Idealize.ShloMosaic.Lib.DynamicIndex
public import Idealize.ShloMosaic.Lib.WordCmp

/-! One trip of the reference's scan over time: from the log sums and the scores up to a time to those up to the next. -/

@[expose] public section

set_option maxRecDepth 16384

noncomputable section

namespace Cert.Reference2Ideal.Val

open Idealize.ShloMosaic Idealize.ShloMosaic.TcCoe Idealize.SL.Sem Idealize.ShloMosaic.StableHlo
open Idealize.ShloMosaic.ValueIdx (select_one select_zero)
open Cert.Reference2Ideal Cert.Reference2Ideal.Gen Cert.Reference2Ideal.Value Cert.Crf

/-- The counter's word stands for the number of the trip. -/
theorem count (k : ℕ) (hk : k < 511) : (Scf.iv (0#32) 1#32 k).toInt = k := by
  rw [show Scf.iv (0#32) 1#32 k = BitVec.ofNat 32 k by simp [Scf.iv]]
  exact word_int (by omega)

/-- One time of a table of rows, read at the counter. -/
theorem row_get {α : Type} (x : S511x128.Idx → α) (s : Fin 2 → Int) (h : S511x128.Slices (fun _ => 0) S1x128)
    (k : ℕ) (hk : k < 511) (h0 : s 0 = k) (h1 : s 1 = 0) (a : Fin 1) (p : Fin 128) :
    Host.dynamicSlice S1x128 x s h (ix2 a p) = x (ix2 ⟨k, hk⟩ p) := by
  rw [Host.dynamicSlice_apply]
  refine congrArg x (funext fun d => Fin.ext ?_)
  have ha : a.val = 0 := by omega
  match d with
  | ⟨0, _⟩ =>
    show Host.clampedStart S511x128 S1x128 h.1 s 0 + a.val = k
    rw [Host.clampedStart_of_le h.1 s 0 k h0 (by show k + 1 ≤ 511; omega)]; omega
  | ⟨1, _⟩ =>
    show Host.clampedStart S511x128 S1x128 h.1 s 1 + p.val = p.val
    rw [Host.clampedStart_of_le h.1 s 1 0 h1 (by show 0 + 128 ≤ 128; omega)]; omega

/-- One time of a table of slabs, read at the counter. -/
theorem slab_get {α : Type} (x : S511x128x17.Idx → α) (s : Fin 3 → Int) (h : S511x128x17.Slices (fun _ => 0) S1x128x17)
    (k : ℕ) (hk : k < 511) (h0 : s 0 = k) (h1 : s 1 = 0) (h2 : s 2 = 0) (a : Fin 1) (p : Fin 128) (g : Fin 17) :
    Host.dynamicSlice S1x128x17 x s h (ix3 a p g) = x (ix3 ⟨k, hk⟩ p g) := by
  rw [Host.dynamicSlice_apply]
  refine congrArg x (funext fun d => Fin.ext ?_)
  have ha : a.val = 0 := by omega
  match d with
  | ⟨0, _⟩ =>
    show Host.clampedStart S511x128x17 S1x128x17 h.1 s 0 + a.val = k
    rw [Host.clampedStart_of_le h.1 s 0 k h0 (by show k + 1 ≤ 511; omega)]; omega
  | ⟨1, _⟩ =>
    show Host.clampedStart S511x128x17 S1x128x17 h.1 s 1 + p.val = p.val
    rw [Host.clampedStart_of_le h.1 s 1 0 h1 (by show 0 + 128 ≤ 128; omega)]; omega
  | ⟨2, _⟩ =>
    show Host.clampedStart S511x128x17 S1x128x17 h.1 s 2 + g.val = g.val
    rw [Host.clampedStart_of_le h.1 s 2 0 h2 (by show 0 + 17 ≤ 17; omega)]; omega

/-- The log of the sum of exponentials of real numbers, with their maximum taken out. -/
theorem lse_real (f : Fin 17 → ℝ) (x : Fin 17 → EReal) (hx : ∀ i, x i = ((f i : ℝ) : EReal)) (M : EReal)
    (hM : M = (Finset.univ : Finset (Fin 17)).fold max (Ideal.ofBits .f32 4286578688#32) x) :
    Ideal.log (∑ i, Ideal.exp (x i - M)) + M = ((Real.log (∑ i, Real.exp (f i)) : ℝ) : EReal) := by
  have hb : Ideal.ofBits .f32 4286578688#32 = ⊥ := by simp [Ideal.ofBits, Ideal.ieee]
  obtain ⟨q, hq, -⟩ := max_real f
  obtain rfl : x = fun i => ((f i : ℝ) : EReal) := funext hx
  rw [hb, hq] at hM
  subst hM
  have e : (∑ i, Ideal.exp (((f i : ℝ) : EReal) - (q : EReal))) = ((∑ i, Real.exp (f i - q) : ℝ) : EReal) := by
    rw [← coe_sum]
    refine Finset.sum_congr rfl fun i _ => ?_
    rw [← EReal.coe_sub, Ideal.exp_coe]
  rw [e, Ideal.log_coe, if_neg (not_le.2 (sum_exp_pos fun i => f i - q)), ← EReal.coe_add, shift_real]

variable (E : Valuation τ sig (Elt Ideal))

/-- The emissions of the times after the first. -/
abbrev emA : S511x128x17.Idx → EReal := E (Proc.devRef .tc main_v53_0)
/-- Their tags. -/
abbrev tgA : IVec S511x128 32 := E (Proc.devRef .tc main_v53_1)
/-- Their masks as numbers. -/
abbrev mfA : S511x128.Idx → EReal := E (Proc.devRef .tc main_v53_2)
/-- Their masks. -/
abbrev mbA : IVec S511x128 1 := E (Proc.devRef .tc main_v53_3)
/-- The transitions. -/
abbrev trA : S17x17.Idx → EReal := E (Proc.devRef .tc main_v53_4)
/-- The numbers of the sequences. -/
abbrev rgA : IVec S128 32 := E (Proc.devRef .tc main_v53_5)
/-- The scores so far. -/
abbrev scA : S128.Idx → EReal := E (Proc.devRef .tc main_v53_7)
/-- The tags before. -/
abbrev pvA : IVec S128 32 := E (Proc.devRef .tc main_v53_8)
/-- The log sums so far. -/
abbrev alA : S128x17.Idx → EReal := E (Proc.devRef .tc main_v53_9)

/-- What the scan reads and leaves as it is. -/
structure Still (P : Field) : Prop where
  em : ∀ t b k, emA E (ix3 t b k) = ((P.em (t.val + 1) b k : ℝ) : EReal)
  tg : ∀ t b, tgA E (ix2 t b) = BitVec.ofNat 32 (P.tag (t.val + 1) b).val
  mf : ∀ t b, mfA E (ix2 t b) = 1
  mb : ∀ t b, mbA E (ix2 t b) = 1#1
  tr : ∀ i j, trA E (ix2 i j) = ((P.tr i j : ℝ) : EReal)
  rg : ∀ b, rgA E (ix1 b) = BitVec.ofNat 32 b.val

/-- What it carries after time `n`. -/
structure Upto (P : Field) (n : ℕ) : Prop where
  ct : E (Proc.devRef .tc main_v53_6) = fun _ => Scf.iv (0#32) 1#32 n
  sc : ∀ b, scA E (ix1 b) = ((P.score n b : ℝ) : EReal)
  pv : ∀ b, pvA E (ix1 b) = BitVec.ofNat 32 (P.tag n b).val
  al : ∀ b j, alA E (ix2 b j) = ((P.alpha n b j : ℝ) : EReal)

variable {E} {P : Field} {n : ℕ}

theorem start_of (hn : n < 511) (u : Upto E P n) : ((E (Proc.devRef .tc main_v53_6) (Shape.Idx.first h_S_) : BitVec 32)).toInt = n := by
  rw [u.ct]; exact count n hn

/-- The emissions of the trip's time. -/
theorem em_at (h : Still E P) (u : Upto E P n) (hn : n < 511) (b : Fin 128) (k : Fin 17) :
    (res_main_while0b_v78 E (ix2 b k) : EReal) = ((P.em (n + 1) b k : ℝ) : EReal) := by
  unfold res_main_while0b_v78
  have key := slab_get (emA E) (fun k => (((![E (Proc.devRef .tc main_v53_6), constantI S_ 32 0#32, constantI S_ 32 0#32] : Fin 3 → (⟨S_, .i32⟩ : BufTy).Contents (Elt Ideal))) k (Shape.Idx.first h_S_)).toInt) sliceFits_S511x128x17_S1x128x17 n hn (start_of hn u) rfl rfl 0 b k
  rw [h.em] at key
  rw [← key]
  generalize Host.dynamicSlice S1x128x17 _ _ _ = y
  pointwise []

/-- The tags of the trip's time. -/
theorem tg_at (h : Still E P) (u : Upto E P n) (hn : n < 511) (b : Fin 128) :
    res_main_while0b_v79 E (ix1 b) = BitVec.ofNat 32 (P.tag (n + 1) b).val := by
  unfold res_main_while0b_v79
  have key := row_get (tgA E) (fun k => (((![E (Proc.devRef .tc main_v53_6), constantI S_ 32 0#32] : Fin 2 → (⟨S_, .i32⟩ : BufTy).Contents (Elt Ideal))) k (Shape.Idx.first h_S_)).toInt) sliceFits_S511x128_S1x128 n hn (start_of hn u) rfl 0 b
  rw [h.tg] at key
  rw [← key]
  generalize Host.dynamicSlice S1x128 _ _ _ = y
  pointwise []

/-- The masks of the trip's time. -/
theorem mb_at (h : Still E P) (u : Upto E P n) (hn : n < 511) (b : Fin 128) : res_main_while0b_v81 E (ix1 b) = 1#1 := by
  unfold res_main_while0b_v81
  have key := row_get (mbA E) (fun k => (((![E (Proc.devRef .tc main_v53_6), constantI S_ 32 0#32] : Fin 2 → (⟨S_, .i32⟩ : BufTy).Contents (Elt Ideal))) k (Shape.Idx.first h_S_)).toInt) sliceFits_S511x128_S1x128 n hn (start_of hn u) rfl 0 b
  rw [h.mb] at key
  rw [← key]
  generalize Host.dynamicSlice S1x128 _ _ _ = y
  pointwise []

/-- The log weight of a path through one transition. -/
theorem path_at (h : Still E P) (u : Upto E P n) (hn : n < 511) (b : Fin 128) (i j : Fin 17) :
    (res_main_while0b_v121 E (ix3 b i j) : EReal) = ((P.alpha n b i + P.tr i j + P.em (n + 1) b j : ℝ) : EReal) := by
  unfold res_main_while0b_v121
  have e := em_at h u hn b j
  have a := u.al b i
  have t := h.tr i j
  generalize res_main_while0b_v78 E = y at e ⊢
  pointwise []
  rw [EReal.coe_add, EReal.coe_add, ← e, ← a, ← t]

/-- The maximum over the state before. -/
theorem top_at (z : FVec Ideal S128x17x17 .f32) (b : Fin 128) (j : Fin 17) :
    Host.reduce FloatOps.maximumf z (constant (F := Ideal) S_ .f32 0xFF800000#32) reducesTo_S128x17x17_S128x17_d1 h_S_ (ix2 b j)
      = (Finset.univ : Finset (Fin 17)).fold max (Ideal.ofBits .f32 4286578688#32) fun i => (z (ix3 b i j) : EReal) := by
  pointwise []

/-- The log sums, of the tops taken out. -/
theorem over_at (z : FVec Ideal S128x17x17 .f32) (v old : FVec Ideal S128x17 .f32) (y : IVec S128 1) (b : Fin 128) (j : Fin 17) :
    (select (broadcastInDim S128x17 ![0, 1] bcast_S128x1_S128x17_0_1 (broadcastInDim S128x1 ![0] bcast_S128_S128x1_0 y))
      (addf (Host.log (Host.reduceAdd (Host.exp (subf z (broadcastInDim S128x17x17 ![0, 1, 2] bcast_S128x1x17_S128x17x17_0_1_2
          (broadcastInDim S128x1x17 ![0, 2] bcast_S128x17_S128x1x17_0_2 v)))) (constant S_ .f32 0x00000000#32) reducesTo_S128x17x17_S128x17_d1 h_S_))
        (shapeCast S128x17 (broadcastInDim S128x1x17 ![0, 2] bcast_S128x17_S128x1x17_0_2 v) shapeCasts_S128x1x17_S128x17)) old (ix2 b j) : EReal)
      = Scalar.select (y (ix1 b)) (Ideal.log (∑ i, Ideal.exp ((z (ix3 b i j) : EReal) - (v (ix2 b j) : EReal))) + (v (ix2 b j) : EReal))
          (old (ix2 b j) : EReal) := by
  pointwise []

/-- The log sums after the trip. -/
theorem al_next (h : Still E P) (u : Upto E P n) (hn : n < 511) (b : Fin 128) (j : Fin 17) :
    (step_main_v53_9 E (ix2 b j) : EReal) = ((P.alpha (n + 1) b j : ℝ) : EReal) := by
  refine (over_at (res_main_while0b_v121 E) _ (alA E) (res_main_while0b_v81 E) b j).trans ?_
  rw [mb_at h u hn b, select_one]
  exact lse_real _ _ (fun i => path_at h u hn b i j) _ (top_at _ b j)

/-- The tag before the next trip. -/
theorem pv_next (h : Still E P) (u : Upto E P n) (hn : n < 511) (b : Fin 128) :
    (step_main_v53_8 E (ix1 b) : BitVec 32) = BitVec.ofNat 32 (P.tag (n + 1) b).val := by
  unfold step_main_v53_8
  have e := mb_at h u hn b
  have t := tg_at h u hn b
  generalize res_main_while0b_v81 E = y at e ⊢
  generalize res_main_while0b_v79 E = z at t ⊢
  dsimp only [id]
  pointwise []
  rw [e, select_one, t]

/-- A word that is not negative is not wrapped around. -/
theorem wrap {k : ℕ} (hk : k < 2 ^ 31) (w : BitVec 32) :
    Scalar.select (IntOp.cmpi .slt (BitVec.ofNat 32 k) 0#32) w (BitVec.ofNat 32 k) = BitVec.ofNat 32 k := by
  have : IntOp.cmpi .slt (BitVec.ofNat 32 k) 0#32 = 0#1 := by
    rcases BitVec.eq_zero_or_eq_one (IntOp.cmpi .slt (BitVec.ofNat 32 k) 0#32) with h | h
    · exact h
    · have := IntOp.cmpi_slt.1 h
      rw [word_int hk] at this
      have z : (0#32).toInt = 0 := by decide
      omega
  rw [this, select_zero]

/-- A column of indices, wrapped around where negative. -/
abbrev column (w : IVec S128 32) (n : BitVec 32) : IVec S128x1 32 :=
  broadcastInDim S128x1 ![0] bcast_S128_S128x1_0 (select (cmpi .slt w (broadcastInDim S128 ![] bcast_S_S128 (constantI S_ 32 0#32)))
    (addi w (broadcastInDim S128 ![] bcast_S_S128 (constantI S_ 32 n))) w)

theorem column_at {w : IVec S128 32} {n : BitVec 32} {b : Fin 128} {k : ℕ} (hk : k < 2 ^ 31) (hw : w (ix1 b) = BitVec.ofNat 32 k) (a : Fin 1) :
    column w n (ix2 b a) = BitVec.ofNat 32 k := by
  refine Eq.trans ?_ (wrap hk (BitVec.ofNat 32 k + n))
  rw [← hw]
  pointwise []
  rfl

/-- Two columns side by side. -/
theorem pair_at (x y : IVec S128x1 32) (b : Fin 128) :
    concatenate S128x2 1 [⟨S128x1, x⟩, ⟨S128x1, y⟩] concatenates_S128x1_S128x1_S128x2_d1 (ix2 b 0) = x (ix2 b 0)
    ∧ concatenate S128x2 1 [⟨S128x1, x⟩, ⟨S128x1, y⟩] concatenates_S128x1_S128x1_S128x2_d1 (ix2 b 1) = y (ix2 b 0) := by
  constructor <;> pointwise []

/-- The transition from one tag to the other. -/
theorem trans_at {x : S17x17.Idx → EReal} {v w : IVec S128 32} {b : Fin 128} {i j : Fin 17} (hv : v (ix1 b) = BitVec.ofNat 32 i.val)
    (hw : w (ix1 b) = BitVec.ofNat 32 j.val) :
    Host.gather gather_S17x17_S128x2_S128_n_01_n_n_01_1_11 x (concatenate S128x2 1 [⟨S128x1, column v 17#32⟩, ⟨S128x1, column w 17#32⟩]
      concatenates_S128x1_S128x1_S128x2_d1) (ix1 b) = x (ix2 i j) := by
  obtain ⟨p, q⟩ := pair_at (column v 17#32) (column w 17#32) b
  refine gather_point (s := S17x17) _ rfl rfl rfl rfl x _ b (ix2 i j) (fun a => ?_) fun a => ?_
  · match a with
    | ⟨0, _⟩ => show (17 : ℕ) < 2 ^ 31; decide
    | ⟨1, _⟩ => show (17 : ℕ) < 2 ^ 31; decide
  · match a with
    | ⟨0, _⟩ => exact p.trans (column_at (by omega) hv 0)
    | ⟨1, _⟩ => exact q.trans (column_at (by omega) hw 0)

/-- The emission of a sequence's tag. -/
theorem emit_at {x : S128x17.Idx → EReal} {v w : IVec S128 32} {b i : Fin 128} {j : Fin 17} (hv : v (ix1 b) = BitVec.ofNat 32 i.val)
    (hw : w (ix1 b) = BitVec.ofNat 32 j.val) :
    Host.gather gather_S128x17_S128x2_S128_n_01_n_n_01_1_11 x (concatenate S128x2 1 [⟨S128x1, column v 128#32⟩, ⟨S128x1, column w 17#32⟩]
      concatenates_S128x1_S128x1_S128x2_d1) (ix1 b) = x (ix2 i j) := by
  obtain ⟨p, q⟩ := pair_at (column v 128#32) (column w 17#32) b
  refine gather_point (s := S128x17) _ rfl rfl rfl rfl x _ b (ix2 i j) (fun a => ?_) fun a => ?_
  · match a with
    | ⟨0, _⟩ => show (128 : ℕ) < 2 ^ 31; decide
    | ⟨1, _⟩ => show (17 : ℕ) < 2 ^ 31; decide
  · match a with
    | ⟨0, _⟩ => exact p.trans (column_at (by omega) hv 0)
    | ⟨1, _⟩ => exact q.trans (column_at (by omega) hw 0)

/-- The entry of a vector that a tag names. -/
theorem entry_at {x : S17.Idx → EReal} {v : IVec S128 32} {b : Fin 128} {i : Fin 17} (hv : v (ix1 b) = BitVec.ofNat 32 i.val) :
    Host.gather gather_S17_S128x1_S128_n_0_n_n_0_1_1 x (column v 17#32) (ix1 b) = x (ix1 i) := by
  refine gather_point (s := S17) _ rfl rfl rfl rfl x _ b (ix1 i) (fun a => ?_) fun a => ?_
  · match a with
    | ⟨0, _⟩ => show (17 : ℕ) < 2 ^ 31; decide
  · match a with
    | ⟨0, _⟩ => exact column_at (by omega) hv 0

/-- The mask of the trip's time, as a number. -/
theorem mf_at (h : Still E P) (u : Upto E P n) (hn : n < 511) (b : Fin 128) :
    (shapeCast S128 (Host.dynamicSlice S1x128 (mfA E) (fun k => (((![E (Proc.devRef .tc main_v53_6), constantI S_ 32 0#32] : Fin 2 → (⟨S_, .i32⟩ : BufTy).Contents (Elt Ideal))) k (Shape.Idx.first h_S_)).toInt) sliceFits_S511x128_S1x128) shapeCasts_S1x128_S128 : S128.Idx → EReal) (ix1 b) = 1 := by
  have key := row_get (mfA E) (fun k => (((![E (Proc.devRef .tc main_v53_6), constantI S_ 32 0#32] : Fin 2 → (⟨S_, .i32⟩ : BufTy).Contents (Elt Ideal))) k (Shape.Idx.first h_S_)).toInt) sliceFits_S511x128_S1x128 n hn (start_of hn u) rfl 0 b
  rw [h.mf] at key
  rw [← key]
  generalize Host.dynamicSlice S1x128 _ _ _ = y
  pointwise []

/-- The scores after the trip. -/
theorem sc_next (h : Still E P) (u : Upto E P n) (hn : n < 511) (b : Fin 128) :
    (step_main_v53_7 E (ix1 b) : EReal) = ((P.score (n + 1) b : ℝ) : EReal) := by
  have a1 := trans_at (x := trA E) (u.pv b) (tg_at h u hn b)
  have a2 := emit_at (x := res_main_while0b_v78 E) (h.rg b) (tg_at h u hn b)
  have a3 := mf_at h u hn b
  have a4 := u.sc b
  rw [h.tr] at a1
  rw [em_at h u hn b] at a2
  show (scA E (ix1 b) : EReal) + ((_ : EReal) + (_ : EReal)) * (_ : EReal) = _
  refine (congrArg₂ (· + ·) a4 (congrArg₂ (· * ·) (congrArg₂ (· + ·) a1 a2) a3)).trans ?_
  rw [mul_one, ← EReal.coe_add, ← EReal.coe_add]
  rfl

theorem still_next (h : Still E P) : Still (STEP E) P := by
  constructor
  · intro t b k; dsimp only [emA]; rw [STEP_main_v53_0]; exact h.em t b k
  · intro t b; dsimp only [tgA]; rw [STEP_main_v53_1]; exact h.tg t b
  · intro t b; dsimp only [mfA]; rw [STEP_main_v53_2]; exact h.mf t b
  · intro t b; dsimp only [mbA]; rw [STEP_main_v53_3]; exact h.mb t b
  · intro i j; dsimp only [trA]; rw [STEP_main_v53_4]; exact h.tr i j
  · intro b; dsimp only [rgA]; rw [STEP_main_v53_5]; exact h.rg b

theorem upto_next (h : Still E P) (u : Upto E P n) (hn : n < 511) : Upto (STEP E) P (n + 1) := by
  constructor
  · rw [STEP_main_v53_6, step_main_v53_6, u.ct, Scf.iv_succ]; rfl
  · intro b; dsimp only [scA]; rw [STEP_main_v53_7]; exact sc_next h u hn b
  · intro b; dsimp only [pvA]; rw [STEP_main_v53_8]; exact pv_next h u hn b
  · intro b j; dsimp only [alA]; rw [STEP_main_v53_9]; exact al_next h u hn b j

/-- After all trips. -/
theorem scan (h : Still E P) (u : Upto E P 0) (n : ℕ) (hn : n ≤ 511) : Still (STEP^[n] E) P ∧ Upto (STEP^[n] E) P n := by
  induction n with
  | zero => exact ⟨h, u⟩
  | succ n ih =>
    obtain ⟨a, c⟩ := ih (by omega)
    rw [Function.iterate_succ_apply']
    exact ⟨still_next a, upto_next a c (by omega)⟩

end Cert.Reference2Ideal.Val
-- ==== Proof.CrfEntry.lean ====
module

public import proofs.«01_k».proof.Proof.CrfTrip
public import Idealize.ShloMosaic.Lib.StableHlo.ReadAt

/-! What the reference's scan starts from, and what is made of what it ends with. -/

@[expose] public section

set_option maxRecDepth 16384

noncomputable section

namespace Cert.Reference2Ideal.Val

open Idealize.ShloMosaic Idealize.ShloMosaic.TcCoe Idealize.SL.Sem Idealize.ShloMosaic.StableHlo
open Idealize.ShloMosaic.ValueIdx (select_one select_zero)
open Cert.Reference2Ideal Cert.Reference2Ideal.Gen Cert.Reference2Ideal.Value Cert.Crf

variable (m : (ℓ : Loc nD τ sig) → Buf (Elt Ideal) ℓ) (c : Dev nD)

/-- An argument array. -/
abbrev arg (r : Ref sig .tc) := m ((c.tc : Thread nD τ).loc r)

/-- The arguments hold the field's data, and mask no time. -/
structure Args (D : Data) : Prop where
  given : Given D (arg m c main_arg0) (arg m c main_arg1) (arg m c main_arg2) (arg m c main_arg4) (arg m c main_arg5) (arg m c main_arg6)
    (arg m c main_arg7) (arg m c main_arg8)
  mask : ∀ j : S128x512.Idx, (arg m c main_arg3 j : BitVec 1) = 1#1

variable {m c} {D : Data}

/-- The forward states, as the program converts them. -/
abbrev stF (m : (ℓ : Loc nD τ sig) → Buf (Elt Ideal) ℓ) (c : Dev nD) : FVec Ideal S512x128x128 .f32 :=
  upto hostOps0 (launchContents m c) 2 (Proc.devRef .tc main_v0)
/-- The backward states, as it converts them. -/
abbrev stB (m : (ℓ : Loc nD τ sig) → Buf (Elt Ideal) ℓ) (c : Dev nD) : FVec Ideal S512x128x128 .f32 :=
  upto hostOps0 (launchContents m c) 2 (Proc.devRef .tc main_v1)

theorem stF_at (h : Args m c D) (t : Fin 512) (b x : Fin 128) : (stF m c (ix3 t b x) : EReal) = ((D.hf t.val b x : ℝ) : EReal) := by
  dsimp only [stF]
  after_reads_simp
  exact h.given.hf t b x

theorem stB_at (h : Args m c D) (t : Fin 512) (b x : Fin 128) : (stB m c (ix3 t b x) : EReal) = ((D.hb t.val b x : ℝ) : EReal) := by
  dsimp only [stB]
  after_reads_simp
  exact h.given.hb t b x

theorem wf_at (h : Args m c D) (k : Fin 17) (x : Fin 128) (hx : x.val < 256) :
    (launchContents m c (Proc.devRef .tc main_arg4) (ix2 k ⟨x.val, hx⟩) : EReal) = ((D.wf k x : ℝ) : EReal) := h.given.wf k x
theorem wb_at (h : Args m c D) (k : Fin 17) (x : Fin 128) (hx : 128 + x.val < 256) :
    (launchContents m c (Proc.devRef .tc main_arg4) (ix2 k ⟨128 + x.val, hx⟩) : EReal) = ((D.wb k x : ℝ) : EReal) := h.given.wb k x

/-- The emissions of a time. -/
theorem em_sum (h : Args m c D) (t : Fin 512) (b : Fin 128) (k : Fin 17) :
    (∑ x : Fin 128, (stF m c (ix3 t b x) : EReal) * (launchContents m c (Proc.devRef .tc main_arg4) (ix2 k ⟨x.val, by omega⟩) : EReal))
      + (∑ x : Fin 128, (stB m c (ix3 t b x) : EReal) * (launchContents m c (Proc.devRef .tc main_arg4) (ix2 k ⟨128 + x.val, by omega⟩) : EReal))
      + (launchContents m c (Proc.devRef .tc main_arg5) (ix1 k) : EReal) = ((D.field.em t.val b k : ℝ) : EReal) := by
  have e : (launchContents m c (Proc.devRef .tc main_arg5) (ix1 k) : EReal) = ((D.bias k : ℝ) : EReal) := h.given.bias k
  rw [e, Finset.sum_congr rfl fun x _ => congrArg₂ (· * ·) (stF_at h t b x) (wf_at h k x _),
    Finset.sum_congr rfl fun x _ => congrArg₂ (· * ·) (stB_at h t b x) (wb_at h k x _)]
  rw [Finset.sum_congr rfl fun x _ => (EReal.coe_mul (D.hf t.val b x) (D.wf k x)).symm,
    Finset.sum_congr rfl fun x _ => (EReal.coe_mul (D.hb t.val b x) (D.wb k x)).symm, coe_sum, coe_sum, ← EReal.coe_add, ← EReal.coe_add]
  rfl

theorem tag_at (h : Args m c D) (b : Fin 128) (t : Fin 512) :
    (launchContents m c (Proc.devRef .tc main_arg2) (ix2 b t) : BitVec 32) = BitVec.ofNat 32 (D.tag t.val b).val := h.given.tag b t

/-- The emissions of all times, as the program computes them. -/
abbrev emAll (X Y : FVec Ideal S512x128x128 .f32) (w : FVec Ideal S17x256 .f32) (v : FVec Ideal S17 .f32) : FVec Ideal S512x128x17 .f32 :=
  transpose S512x128x17 [1, 0, 2] (addf (Host.dotGeneral dot_S128x512x256_S17x256_S128x512x17_2_1_01_0_n_n none
    (transpose S128x512x256 [1, 0, 2] (concatenate S512x128x256 2 [⟨S512x128x128, X⟩, ⟨S512x128x128, Y⟩]
      concatenates_S512x128x128_S512x128x128_S512x128x256_d2) transposes_S512x128x256_S128x512x256_1_0_2) w)
    (broadcastInDim S128x512x17 ![0, 1, 2] bcast_S1x1x17_S128x512x17_0_1_2 (broadcastInDim S1x1x17 ![2] bcast_S17_S1x1x17_2 v)))
    transposes_S128x512x17_S512x128x17_1_0_2

theorem emAll_at (X Y : FVec Ideal S512x128x128 .f32) (w : FVec Ideal S17x256 .f32) (v : FVec Ideal S17 .f32) (t : Fin 512) (b : Fin 128)
    (k : Fin 17) : (emAll X Y w v (ix3 t b k) : EReal)
      = (∑ x : Fin 128, (X (ix3 t b x) : EReal) * (w (ix2 k ⟨x.val, by omega⟩) : EReal))
        + (∑ x : Fin 128, (Y (ix3 t b x) : EReal) * (w (ix2 k ⟨128 + x.val, by omega⟩) : EReal)) + (v (ix1 k) : EReal) := by
  pointwise []

/-- The arguments' emissions. -/
abbrev ems (m : (ℓ : Loc nD τ sig) → Buf (Elt Ideal) ℓ) (c : Dev nD) : FVec Ideal S512x128x17 .f32 :=
  emAll (stF m c) (stB m c) (launchContents m c (Proc.devRef .tc main_arg4)) (launchContents m c (Proc.devRef .tc main_arg5))

theorem ems_at (h : Args m c D) (t : Fin 512) (b : Fin 128) (k : Fin 17) : (ems m c (ix3 t b k) : EReal) = ((D.field.em t.val b k : ℝ) : EReal) :=
  (emAll_at _ _ _ _ t b k).trans (em_sum h t b k)

theorem later_slab {α : Type} (x : S512x128x17.Idx → α) (t : Fin 511) (b : Fin 128) (k : Fin 17) :
    extractStridedSlice S511x128x17 ![1, 0, 0] x slices_S512x128x17_S511x128x17_1_0_0 (ix3 t b k) = x (ix3 ⟨t.val + 1, by omega⟩ b k) := by
  pointwise []
  exact congrArg (fun q : Fin 512 => x (ix3 q b k)) (Fin.ext (Nat.add_comm _ _))

theorem later_row {α : Type} (x : S512x128.Idx → α) (t : Fin 511) (b : Fin 128) :
    extractStridedSlice S511x128 ![1, 0] x slices_S512x128_S511x128_1_0 (ix2 t b) = x (ix2 ⟨t.val + 1, by omega⟩ b) := by
  pointwise []
  exact congrArg (fun q : Fin 512 => x (ix2 q b)) (Fin.ext (Nat.add_comm _ _))

theorem turn {α : Type} (x : S128x512.Idx → α) (t : Fin 512) (b : Fin 128) :
    transpose S512x128 [1, 0] x transposes_S128x512_S512x128_1_0 (ix2 t b) = x (ix2 b t) := by
  pointwise []

theorem e0 (h : Args m c D) (t : Fin 511) (b : Fin 128) (k : Fin 17) : emA (entryContents preI m c) (ix3 t b k) = ((D.field.em (t.val + 1) b k : ℝ) : EReal) := by
  dsimp only [emA]
  simp only [entryContents, afterL_cons, afterL_nil]
  after_reads_simp
  exact (later_slab (ems m c) t b k).trans (ems_at h ⟨t.val + 1, by omega⟩ b k)

theorem e1 (h : Args m c D) (t : Fin 511) (b : Fin 128) : tgA (entryContents preI m c) (ix2 t b) = BitVec.ofNat 32 (D.tag (t.val + 1) b).val := by
  dsimp only [tgA]
  simp only [entryContents, afterL_cons, afterL_nil]
  after_reads_simp
  exact ((later_row _ t b).trans (turn _ _ b)).trans (tag_at h b ⟨t.val + 1, by omega⟩)

theorem e3 (h : Args m c D) (t : Fin 511) (b : Fin 128) : mbA (entryContents preI m c) (ix2 t b) = 1#1 := by
  dsimp only [mbA]
  simp only [entryContents, afterL_cons, afterL_nil]
  after_reads_simp
  exact ((later_row _ t b).trans (turn _ _ b)).trans (h.mask _)

theorem e2 (h : Args m c D) (t : Fin 511) (b : Fin 128) : mfA (entryContents preI m c) (ix2 t b) = 1 := by
  dsimp only [mfA]
  simp only [entryContents, afterL_cons, afterL_nil]
  after_reads_simp
  refine (later_row _ t b).trans ?_
  have e : (transpose S512x128 [1, 0] (launchContents m c (Proc.devRef .tc main_arg3)) transposes_S128x512_S512x128_1_0 (ix2 ⟨t.val + 1, by omega⟩ b) : BitVec 1) = 1#1 :=
    (turn _ _ b).trans (h.mask _)
  refine (congrArg (fun w : BitVec 1 => (((w.toNat : ℝ)) : EReal)) e).trans ?_
  norm_num

theorem e4 (h : Args m c D) (i j : Fin 17) : trA (entryContents preI m c) (ix2 i j) = ((D.tr i j : ℝ) : EReal) := by
  dsimp only [trA]
  simp only [entryContents, afterL_cons, afterL_nil]
  after_reads_simp
  exact h.given.tr i j

theorem e5 (b : Fin 128) : rgA (entryContents preI m c) (ix1 b) = BitVec.ofNat 32 b.val := by
  dsimp only [rgA]
  simp only [entryContents, afterL_cons, afterL_nil]
  after_reads_simp
  rfl

/-- The tags of the first time. -/
abbrev first (m : (ℓ : Loc nD τ sig) → Buf (Elt Ideal) ℓ) (c : Dev nD) : IVec S128 32 :=
  shapeCast S128 (extractStridedSlice S1x128 ![0, 0] (transpose S512x128 [1, 0] (launchContents m c (Proc.devRef .tc main_arg2))
    transposes_S128x512_S512x128_1_0) slices_S512x128_S1x128_0_0) shapeCasts_S1x128_S128

theorem first_row (x : S512x128.Idx → BitVec 32) (b : Fin 128) :
    shapeCast S128 (extractStridedSlice S1x128 ![0, 0] x slices_S512x128_S1x128_0_0) shapeCasts_S1x128_S128 (ix1 b) = x (ix2 0 b) := by
  pointwise []

theorem first_at (h : Args m c D) (b : Fin 128) : first m c (ix1 b) = BitVec.ofNat 32 (D.tag 0 b).val :=
  ((first_row _ b).trans (turn _ 0 b)).trans (tag_at h b 0)

/-- Three columns side by side. -/
theorem triple_at (x y z : IVec S128x1 32) (b : Fin 128) :
    concatenate S128x3 1 [⟨S128x1, x⟩, ⟨S128x1, y⟩, ⟨S128x1, z⟩] concatenates_S128x1_S128x1_S128x1_S128x3_d1 (ix2 b 0) = x (ix2 b 0)
    ∧ concatenate S128x3 1 [⟨S128x1, x⟩, ⟨S128x1, y⟩, ⟨S128x1, z⟩] concatenates_S128x1_S128x1_S128x1_S128x3_d1 (ix2 b 1) = y (ix2 b 0)
    ∧ concatenate S128x3 1 [⟨S128x1, x⟩, ⟨S128x1, y⟩, ⟨S128x1, z⟩] concatenates_S128x1_S128x1_S128x1_S128x3_d1 (ix2 b 2) = z (ix2 b 0) := by
  refine ⟨?_, ?_, ?_⟩ <;> pointwise []

/-- The emission of a sequence's tag at a time. -/
theorem emit3_at {v : S512x128x17.Idx → EReal} {x y z : IVec S128x1 32} {b : Fin 128} {t : Fin 512} {i : Fin 128} {j : Fin 17}
    (hx : x (ix2 b 0) = BitVec.ofNat 32 t.val) (hy : y (ix2 b 0) = BitVec.ofNat 32 i.val) (hz : z (ix2 b 0) = BitVec.ofNat 32 j.val) :
    Host.gather gather_S512x128x17_S128x3_S128_n_012_n_n_012_1_111 v (concatenate S128x3 1 [⟨S128x1, x⟩, ⟨S128x1, y⟩, ⟨S128x1, z⟩]
      concatenates_S128x1_S128x1_S128x1_S128x3_d1) (ix1 b) = v (ix3 t i j) := by
  obtain ⟨p, q, r⟩ := triple_at x y z b
  refine gather_point (s := S512x128x17) _ rfl rfl rfl rfl v _ b (ix3 t i j) (fun a => ?_) fun a => ?_
  · match a with
    | ⟨0, _⟩ => show (512 : ℕ) < 2 ^ 31; decide
    | ⟨1, _⟩ => show (128 : ℕ) < 2 ^ 31; decide
    | ⟨2, _⟩ => show (17 : ℕ) < 2 ^ 31; decide
  · match a with
    | ⟨0, _⟩ => exact p.trans hx
    | ⟨1, _⟩ => exact q.trans hy
    | ⟨2, _⟩ => exact r.trans hz

theorem col0 (b : Fin 128) : (upto hostOps0 (launchContents m c) 46 (Proc.devRef .tc main_v36) : IVec S128x1 32) (ix2 b 0) = BitVec.ofNat 32 0 := by
  after_reads_simp
  rfl

theorem col1 (b : Fin 128) : (upto hostOps0 (launchContents m c) 46 (Proc.devRef .tc main_v37) : IVec S128x1 32) (ix2 b 0) = BitVec.ofNat 32 b.val := by
  after_reads_simp
  exact column_at (w := iotaInDim S128 32 0) (n := 128#32) (k := b.val) (by omega) rfl 0

theorem col2 (h : Args m c D) (b : Fin 128) :
    (upto hostOps0 (launchContents m c) 46 (Proc.devRef .tc main_v38) : IVec S128x1 32) (ix2 b 0) = BitVec.ofNat 32 (D.tag 0 b).val := by
  after_reads_simp
  exact column_at (w := first m c) (n := 17#32) (by omega) (first_at h b) 0

theorem e7 (h : Args m c D) (b : Fin 128) : scA (entryContents preI m c) (ix1 b) = ((D.field.score 0 b : ℝ) : EReal) := by
  dsimp only [scA]
  simp only [entryContents, afterL_cons, afterL_nil]
  after_reads_simp
  have a1 := entry_at (x := launchContents m c (Proc.devRef .tc main_arg6)) (first_at h b)
  have a2 := emit3_at (v := ems m c) (t := 0) (col0 (m := m) (c := c) b) (col1 (m := m) (c := c) b) (col2 h b)
  have st : ∀ k, (launchContents m c (Proc.devRef .tc main_arg6) (ix1 k) : EReal) = ((D.st k : ℝ) : EReal) := h.given.st
  rw [st] at a1
  rw [ems_at h] at a2
  refine (congrArg₂ (· + ·) a1 a2).trans ?_
  rw [← EReal.coe_add]
  rfl

theorem e8 (h : Args m c D) (b : Fin 128) : pvA (entryContents preI m c) (ix1 b) = BitVec.ofNat 32 (D.tag 0 b).val := by
  dsimp only [pvA]
  simp only [entryContents, afterL_cons, afterL_nil]
  after_reads_simp
  exact first_at h b

/-- The first log sums of the emissions and the start weights. -/
theorem begin_at (x : FVec Ideal S512x128x17 .f32) (v : FVec Ideal S17 .f32) (b : Fin 128) (j : Fin 17) :
    (addf (broadcastInDim S128x17 ![0, 1] bcast_S1x17_S128x17_0_1 (broadcastInDim S1x17 ![1] bcast_S17_S1x17_1 v))
      (shapeCast S128x17 (extractStridedSlice S1x128x17 ![0, 0, 0] x slices_S512x128x17_S1x128x17_0_0_0) shapeCasts_S1x128x17_S128x17)
      (ix2 b j) : EReal) = (v (ix1 j) : EReal) + (x (ix3 0 b j) : EReal) := by
  pointwise []

theorem e9 (h : Args m c D) (b : Fin 128) (j : Fin 17) : alA (entryContents preI m c) (ix2 b j) = ((D.field.alpha 0 b j : ℝ) : EReal) := by
  dsimp only [alA]
  simp only [entryContents, afterL_cons, afterL_nil]
  after_reads_simp
  refine (begin_at (ems m c) (launchContents m c (Proc.devRef .tc main_arg6)) b j).trans ?_
  have st : ∀ k, (launchContents m c (Proc.devRef .tc main_arg6) (ix1 k) : EReal) = ((D.st k : ℝ) : EReal) := h.given.st
  rw [st, ems_at h, ← EReal.coe_add]
  rfl

/-- What the scan starts from. -/
theorem entry (h : Args m c D) : Still (entryContents preI m c) D.field ∧ Upto (entryContents preI m c) D.field 0 :=
  ⟨⟨e0 h, e1 h, e2 h, e3 h, e4 h, e5⟩, ⟨Value.ctr_entry m c, e7 h, e8 h, e9 h⟩⟩

end Cert.Reference2Ideal.Val
-- ==== Proof.CrfStep.lean ====
module

public import proofs.«01_k».proof.Proof.Gen.Kernel2Ideal.Skeleton
public import Idealize.ShloMosaic.Lib.Pointwise

/-! The thirty-two steps one grid point of the loss kernel makes, as iterates over the rows of a block. -/

@[expose] public section

set_option maxRecDepth 16384

noncomputable section

namespace Cert.Kernel2Ideal.Val

open Idealize.ShloMosaic Cert.Kernel2Ideal Cert.Kernel2Ideal.Gen

variable {F : FTy → Type} [FloatOps F]

/-- The number of each lane. -/
def lane : IVec S128x128 32 := iota .tc S128x128 32 [1] iota_S128x128_d1_w32

theorem tagFits (n : ℕ) : S128x32.Slices ![0, n % 32] S128x1 := by
  refine ⟨rfl, fun a => ?_⟩
  have := Nat.mod_lt n (show 0 < 32 by decide)
  match a with
  | 0 => show 0 + 128 ≤ 128; omega
  | 1 => show n % 32 + 1 ≤ 32; omega

/-- The lanes that hold the tags of step `n`: one for the tag's lane, zero for the others. -/
def oneHot (tg : IVec S128x32 32) (n : ℕ) : FVec F S128x128 .f32 :=
  sitofp .f32 (extui 32 (cmpi .eq lane (broadcastTo S128x128 (extractStridedSlice S128x1 ![0, n % 32] tg (tagFits n)) broadcasts_S128x1_S128x128)) natLt_1_32)

/-- A block's row as a matrix. -/
def mat {t : FTy} (x : FVec F S1x128x128 t) : FVec F S128x128 t := shapeCast S128x128 x shapeCasts_S1x128x128_S128x128

/-- A product of two square matrices. -/
def prod {t : FTy} (x y : FVec F S128x128 t) : FVec F S128x128 .f32 :=
  matmul dot_S128x128_S128x128_S128x128_1_0_0_1_n_n none x y (constant S128x128 .f32 0x00000000#32)

/-- One step of the score: the emission and the transition from the lanes `p`, kept at the lanes `oh`. -/
def scoreStep (trm acc p oh : FVec F S128x128 .f32) (e : FVec F S1x128x128 .f32) : FVec F S128x128 .f32 :=
  addf acc (mulf (addf (mat e) (prod p trm)) oh)

/-- The score after step `n` of a point, `a` being the score after its first step. -/
def scoreAt (trm : FVec F S128x128 .f32) (tg : IVec S128x32 32) (em : ℕ → FVec F S1x128x128 .f32) (a : FVec F S128x128 .f32) :
    ℕ → FVec F S128x128 .f32
  | 0 => a
  | n + 1 => scoreStep trm (scoreAt trm tg em a n) (oneHot tg n) (oneHot tg (n + 1)) (em (n + 1))

/-- One step of the forward weights. -/
def weigh (etr b : FVec F S128x128 .f32) (ee : FVec F S1x128x128 .f32) : FVec F S128x128 .f32 := mulf (prod b etr) (mat ee)

/-- Each row's largest weight. -/
def top (b : FVec F S128x128 .f32) : FVec F S128x1 .f32 :=
  shapeCast S128x1 (multiReduction .maximumf [1] S128 b 0xFF800000#32 reduces_S128x128_S128 (.inl rfl) rfl) shapeCasts_S128_S128x1

/-- The weights over each row's largest. -/
def normed (b : FVec F S128x128 .f32) : FVec F S128x128 .f32 :=
  mulf b (broadcastTo S128x128 (divf (broadcast S128x1 (Scalar.ofBits .f32 0x3F800000#32)) (top b)) broadcasts_S128x1_S128x128)

/-- Three steps after step `n`. -/
def three (etr : FVec F S128x128 .f32) (ee : ℕ → FVec F S1x128x128 .f32) (n : ℕ) (b : FVec F S128x128 .f32) : FVec F S128x128 .f32 :=
  weigh etr (weigh etr (weigh etr b (ee (n + 1))) (ee (n + 2))) (ee (n + 3))

/-- The weights at the end of the `g`-th group of four steps, before the normalisation; `b` being those after the first step. -/
def weightAt (etr : FVec F S128x128 .f32) (ee : ℕ → FVec F S1x128x128 .f32) (b : FVec F S128x128 .f32) : ℕ → FVec F S128x128 .f32
  | 0 => three etr ee 0 b
  | g + 1 => three etr ee (4 * g + 4) (weigh etr (normed (weightAt etr ee b g)) (ee (4 * g + 4)))

/-- The logarithms of what was divided out, after `g` groups. -/
def logAt (etr : FVec F S128x128 .f32) (ee : ℕ → FVec F S1x128x128 .f32) (b : FVec F S128x128 .f32) (l : FVec F S128x1 .f32) :
    ℕ → FVec F S128x1 .f32
  | 0 => l
  | g + 1 => addf (logAt etr ee b l g) (log (top (weightAt etr ee b g)))

/-- The emissions of one time step, from its two rows of states. -/
def emit (wf wb : FVec F S128x128 .bf16) (b : FVec F S1x128 .f32) (f g : FVec F S1x128x128 .bf16) : FVec F S128x128 .f32 :=
  addf (addf (prod (mat f) wf) (prod (mat g) wb)) (broadcastTo S128x128 b broadcasts_S1x128_S128x128)

/-- A matrix as a block's row. -/
def row (x : FVec F S128x128 .f32) : FVec F S1x128x128 .f32 := shapeCast S1x128x128 x shapeCasts_S128x128_S1x128x128

end Cert.Kernel2Ideal.Val
-- ==== Proof.CrfBlock.lean ====
module

public import proofs.«01_k».proof.Proof.CrfStep
public import proofs.«01_k».proof.Proof.Gen.Kernel2Ideal.Frame
public import Idealize.ShloMosaic.Lib.WritesUnit
public import Idealize.ShloMosaic.Lib.VecWindow
public import Idealize.ShloMosaic.Lib.WholeRead
public import Idealize.ShloMosaic.Lib.Pipeline.ReadBack

/-! What one grid point of the loss kernel leaves in each carried buffer, as the iterates of the point's steps. -/

@[expose] public section

set_option maxRecDepth 16384

noncomputable section

namespace Cert.Kernel2Ideal.Val

open Idealize.ShloMosaic Cert.Kernel2Ideal Cert.Kernel2Ideal.Gen

variable {F : FTy → Type} [FloatOps F]

theorem rowFits (n : ℕ) : ∀ a, (![n % 32, 0, 0] : Fin 3 → ℕ) a + S1x128x128.size a ≤ S32x128x128.size a := by
  intro a
  have := Nat.mod_lt n (show 0 < 32 by decide)
  match a with
  | 0 => show n % 32 + 1 ≤ 32; omega
  | 1 => show 0 + 128 ≤ 128; omega
  | 2 => show 0 + 128 ≤ 128; omega

/-- The rectangle of row `n`. -/
def rowRect (n : ℕ) : Rect S32x128x128 := Rect.unit ![n % 32, 0, 0] S1x128x128.size (rowFits n)

/-- The rectangle of the whole block. -/
abbrev allRect : Rect S32x128x128 := Rect.unit ![0, 0, 0] S32x128x128.size inb_S32x128x128_S32x128x128_0_0_0

/-- Row `n` of a block as a vector. -/
def rowV {e : EltTy} (x : Vec F S32x128x128 e) (n : ℕ) : Vec F S1x128x128 e :=
  fun j => x (ix3 ⟨n % 32, Nat.mod_lt _ (by decide)⟩ (j 1) (j 2))

/-- Row `n` of a block of numbers. -/
def rowF (x : FVec F S32x128x128 .f32) (n : ℕ) : FVec F S1x128x128 .f32 := rowV (F := F) (e := .f32) x n
/-- Row `n` of a block of states. -/
def rowB (x : FVec F S32x128x128 .bf16) (n : ℕ) : FVec F S1x128x128 .bf16 := rowV (F := F) (e := .bf16) x n
theorem rowF_eq (x : FVec F S32x128x128 .f32) : rowV (F := F) (e := .f32) x = rowF x := rfl
theorem rowB_eq (x : FVec F S32x128x128 .bf16) : rowV (F := F) (e := .bf16) x = rowB x := rfl

theorem rowRect_idx (n : ℕ) (j : S1x128x128.Idx) :
    (rowRect n).toLoadRect.idx j = ix3 (⟨n % 32, Nat.mod_lt _ (by decide)⟩ : Fin 32) (j 1) (j 2) := by
  funext k
  refine Fin.ext ?_
  match k with
  | 0 => have : (j 0).val < 1 := (j 0).isLt
         show n % 32 + 1 * (j 0).val = n % 32; omega
  | 1 => show 0 + 1 * (j 1).val = (j 1).val; omega
  | 2 => show 0 + 1 * (j 2).val = (j 2).val; omega

/-- What the load of row `n` of a staged block reads. -/
def rowOf {e : EltTy} (a : Memref sig .tc .vmem S32x128x128 e) (h : a.IsWhole) (x : Vec F S32x128x128 e) (n : ℕ) : Vec F S1x128x128 e :=
  View.readAt (Elt F) a.view (rowRect n).toLoadRect (h.unread x)

theorem rowOf_eq {e : EltTy} (a : Memref sig .tc .vmem S32x128x128 e) (h : a.IsWhole) (x : Vec F S32x128x128 e) : rowOf a h x = rowV x := by
  funext n j
  exact (h.readAt_unread x (rowRect n).toLoadRect j).trans (congrArg x (rowRect_idx n j))

/-- The stores of the first `n` rows over earlier stores, last first. -/
def stores (f : ℕ → FVec F S1x128x128 .f32) (L : List (View.Piece (Elt F) S32x128x128 .f32)) : ℕ → List (View.Piece (Elt F) S32x128x128 .f32)
  | 0 => L
  | n + 1 => ⟨rowRect n, f n⟩ :: stores f L n

/-- A row among the first `n` stores holds what was stored there. -/
theorem stores_read (v : View sig .tc .vmem S32x128x128 .f32) (f0 : v.ty.Contents (Elt F)) (f : ℕ → FVec F S1x128x128 .f32)
    (L : List (View.Piece (Elt F) S32x128x128 .f32)) (r : Fin 32) (p q : Fin 128) : ∀ n, n ≤ 32 → r.val < n →
    v.read (Elt F) (v.writes (Elt F) f0 (stores f L n)) (ix3 r p q) = f r.val (ix3 0 p q)
  | 0, _, h => absurd h (Nat.not_lt_zero _)
  | n + 1, hn, h => by
    by_cases e : r.val = n
    · subst e
      refine View.read_writes_cons_unit_of_mem v f0 (rowFits r.val) _ _ (ix3 r p q) (ix3 0 p q) rfl fun a => ?_
      match a with
      | 0 => show r.val = r.val % 32 + 0; omega
      | 1 => show p.val = 0 + p.val; omega
      | 2 => show q.val = 0 + q.val; omega
    · refine (View.read_writes_cons_unit_of_not_mem v f0 (rowFits n) _ _ (ix3 r p q) rfl 0 (Or.inl ?_)).trans
        (stores_read v f0 f L r p q n (by omega) (by omega))
      show r.val < n % 32
      omega

/-- A row after the first `n` stores holds what was there before them. -/
theorem stores_skip (v : View sig .tc .vmem S32x128x128 .f32) (f0 : v.ty.Contents (Elt F)) (f : ℕ → FVec F S1x128x128 .f32)
    (L : List (View.Piece (Elt F) S32x128x128 .f32)) (r : Fin 32) (p q : Fin 128) : ∀ n, n ≤ r.val →
    v.read (Elt F) (v.writes (Elt F) f0 (stores f L n)) (ix3 r p q) = v.read (Elt F) (v.writes (Elt F) f0 L) (ix3 r p q)
  | 0, _ => rfl
  | n + 1, hn => by
    refine (View.read_writes_cons_unit_of_not_mem v f0 (rowFits n) _ _ (ix3 r p q) rfl 0 (Or.inr ?_)).trans
      (stores_skip v f0 f L r p q n (by omega))
    show n % 32 + 1 ≤ r.val
    omega

/-- What a load of row `n` reads once the block `Z` was stored whole and the rows before `n` over it. -/
def rowCov (a : Memref sig .tc .vmem S32x128x128 .f32) (f : ℕ → FVec F S1x128x128 .f32) (Z : Vec F S32x128x128 .f32) (n : ℕ) : Vec F S1x128x128 .f32 :=
  a.view.readCov (stores f [⟨allRect, Z⟩] n) (rowRect n).toLoadRect

theorem rowCov_eq (a : Memref sig .tc .vmem S32x128x128 .f32) (f : ℕ → FVec F S1x128x128 .f32) (Z : Vec F S32x128x128 .f32) (n : ℕ) (hn : n < 32) :
    rowCov a f Z n = rowV Z n := by
  funext j
  refine (congrArg (a.view.read (Elt F) (a.view.writes (Elt F) a.view.junk (stores f [⟨allRect, Z⟩] n))) (rowRect_idx n j)).trans ?_
  refine (stores_skip a.view _ f [⟨allRect, Z⟩] ⟨n % 32, _⟩ (j 1) (j 2) n (by show n ≤ n % 32; omega)).trans ?_
  exact congrFun (View.read_writes_full a.view _ _ Z []) _

/-- What a load of row `n` reads of a block stored whole. -/
def rowWhole (a : Memref sig .tc .vmem S32x128x128 .f32) (Z : Vec F S32x128x128 .f32) (n : ℕ) : Vec F S1x128x128 .f32 :=
  a.view.readCov [⟨allRect, Z⟩] (rowRect n).toLoadRect

theorem rowWhole_eq (a : Memref sig .tc .vmem S32x128x128 .f32) (Z : Vec F S32x128x128 .f32) : rowWhole a Z = rowV Z := by
  funext n j
  refine (congrArg (a.view.read (Elt F) (a.view.writes (Elt F) a.view.junk [⟨allRect, Z⟩])) (rowRect_idx n j)).trans ?_
  exact congrFun (View.read_writes_full a.view _ _ Z []) _

/-- The load of a whole memref. -/
def load {s : Shape} {e : EltTy} (a : Memref sig .tc .vmem s e) (h : a.IsWhole) (x : Vec F s e)
    (off : Fin s.rank → ℕ) (inb : ∀ k, off k + s.size k ≤ s.size k) : Vec F s e :=
  View.readAt (Elt F) a.view (Rect.unit off s.size inb).toLoadRect (h.unread x)

theorem load_eq {s : Shape} {e : EltTy} (a : Memref sig .tc .vmem s e) (h : a.IsWhole) (x : Vec F s e)
    (off : Fin s.rank → ℕ) (inb : ∀ k, off k + s.size k ≤ s.size k) : load a h x off inb = x :=
  (View.readAt_full a.view _ inb).trans (h.read_unread x)

/-- The load of a whole memref just stored whole. -/
def reload {s : Shape} {e : EltTy} (a : Memref sig .tc .vmem s e) (x : Vec F s e)
    (off : Fin s.rank → ℕ) (inb : ∀ k, off k + s.size k ≤ s.size k) (L : List (View.Piece (Elt F) s e)) : Vec F s e :=
  a.view.readCov (⟨Rect.unit off s.size inb, x⟩ :: L) (Rect.unit off s.size inb).toLoadRect

theorem reload_eq {s : Shape} {e : EltTy} (a : Memref sig .tc .vmem s e) (x : Vec F s e)
    (off : Fin s.rank → ℕ) (inb : ∀ k, off k + s.size k ≤ s.size k) (L : List (View.Piece (Elt F) s e)) : reload a x off inb L = x :=
  View.readCov_full _ _ _ _ _

theorem p9 (x : Vec F S128x128 .bf16) : k0_pay9 x = x := shapeCast_self _ _
theorem p10 (x : Vec F S128x128 .bf16) : k0_pay10 x = x := shapeCast_self _ _
theorem p11 (x : Vec F S1x128 .f32) : k0_pay11 x = x := shapeCast_self _ _
theorem p15 (x : Vec F S128x128 .f32) : k0_pay15 x = x := shapeCast_self _ _
theorem p16 (x : Vec F S1x128 .f32) : k0_pay16 x = x := shapeCast_self _ _
theorem p1 (x : FVec F S128x1 .f32) : k0_pay1 x = x := shapeCast_self _ _

/-- A matrix as it is stored. -/
def same (x : FVec F S128x128 .f32) : FVec F S128x128 .f32 := shapeCast S128x128 x shapeCasts_S128x128_S128x128
theorem same_eq (x : FVec F S128x128 .f32) : same x = x := shapeCast_self _ _

/-- The weights after a point's first step. -/
def firstW (i : grid0.Coords) (etr : FVec F S128x128 .f32) (st : FVec F S1x128 .f32) (b : FVec F S128x128 .f32) (ee : ℕ → FVec F S1x128x128 .f32) :
    FVec F S128x128 .f32 := k0_pay19 (BitVec.ofNat 32 (i 0).val) lane etr st b (ee 0)

/-- The weights after a point. -/
def pointW (i : grid0.Coords) (etr : FVec F S128x128 .f32) (st : FVec F S1x128 .f32) (b : FVec F S128x128 .f32) (ee : ℕ → FVec F S1x128x128 .f32) :
    FVec F S128x128 .f32 := normed (weightAt etr ee (firstW i etr st b ee) 7)

/-- The logarithms after a point. -/
def pointL (i : grid0.Coords) (etr : FVec F S128x128 .f32) (st : FVec F S1x128 .f32) (b : FVec F S128x128 .f32) (ee : ℕ → FVec F S1x128x128 .f32)
    (l : FVec F S128x1 .f32) : FVec F S128x1 .f32 := logAt etr ee (firstW i etr st b ee) l 8

/-- The score after a point. -/
def pointS (i : grid0.Coords) (trm : FVec F S128x128 .f32) (st : FVec F S1x128 .f32) (tg : IVec S128x32 32) (a p : FVec F S128x128 .f32)
    (em : ℕ → FVec F S1x128x128 .f32) : FVec F S128x128 .f32 :=
  scoreAt trm tg em (k0_pay18 (BitVec.ofNat 32 (i 0).val) lane tg trm st a p (em 0)) 31

theorem scoreAt_congr (trm : FVec F S128x128 .f32) (tg : IVec S128x32 32) (em em' : ℕ → FVec F S1x128x128 .f32) (a : FVec F S128x128 .f32) :
    ∀ n, (∀ k, k ≤ n → em k = em' k) → scoreAt trm tg em a n = scoreAt trm tg em' a n
  | 0, _ => rfl
  | n + 1, h => by
    show scoreStep trm _ _ _ _ = scoreStep trm _ _ _ _
    rw [h (n + 1) (Nat.le_refl _), scoreAt_congr trm tg em em' a n fun k hk => h k (Nat.le_succ_of_le hk)]

theorem pointS_congr (i : grid0.Coords) (trm : FVec F S128x128 .f32) (st : FVec F S1x128 .f32) (tg : IVec S128x32 32) (a p : FVec F S128x128 .f32)
    (em em' : ℕ → FVec F S1x128x128 .f32) (h : ∀ k, k ≤ 31 → em k = em' k) : pointS i trm st tg a p em = pointS i trm st tg a p em' := by
  unfold pointS
  rw [h 0 (by omega)]
  exact scoreAt_congr _ _ _ _ _ 31 h

/-- The next block's row `n` of emissions. -/
def nextRow (wf wb : FVec F S128x128 .bf16) (b : FVec F S1x128 .f32) (f g : ℕ → FVec F S1x128x128 .bf16) (n : ℕ) : FVec F S1x128x128 .f32 :=
  row (emit wf wb b (f n) (g n))

section Run

variable (c : Dev nD) (i : grid0.Coords) (arg1 : Memref sig .tc .vmem S32x128x128 .bf16) (harg1 : arg1.IsWhole) (arg2 : Memref sig .tc .vmem S32x128x128 .bf16) (harg2 : arg2.IsWhole) (arg3 : Memref sig .tc .vmem S32x128x128 .bf16) (harg3 : arg3.IsWhole) (arg4 : Memref sig .tc .vmem S32x128x128 .bf16) (harg4 : arg4.IsWhole) (arg5 : Memref sig .tc .vmem S1x128x32 .i32) (harg5 : arg5.IsWhole) (arg6 : Memref sig .tc .vmem S128x128 .bf16) (harg6 : arg6.IsWhole) (arg7 : Memref sig .tc .vmem S128x128 .bf16) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x1x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x1 .f32) (harg16 : arg16.IsWhole) (arg17 : Memref sig .tc .vmem S32x128x128 .f32) (harg17 : arg17.IsWhole) (arg18 : Memref sig .tc .vmem S32x128x128 .f32) (harg18 : arg18.IsWhole) (arg19 : Memref sig .tc .vmem S128x128 .f32) (harg19 : arg19.IsWhole)
variable (x0 : Vec F S32x128x128 .bf16) (x1 : Vec F S32x128x128 .bf16) (x2 : Vec F S32x128x128 .bf16) (x3 : Vec F S32x128x128 .bf16) (x4 : Vec F S1x128x32 .i32) (x5 : Vec F S128x128 .bf16) (x6 : Vec F S128x128 .bf16) (x7 : Vec F S1x128 .f32) (x8 : Vec F S128x128 .f32) (x9 : Vec F S1x128 .f32) (x10 : Vec F S1x128 .f32) (xs0 : Vec F S128x128 .f32) (xs1 : Vec F S128x128 .f32) (xs2 : Vec F S128x128 .f32) (xs3 : Vec F S128x1 .f32) (xs4 : Vec F S32x128x128 .f32) (xs6 : Vec F S128x128 .f32)
variable (hc0 : ¬cond0_0 i) (hc1 : ¬cond0_1 i) (hA0 : cond0_0 i) (hA1 : ¬cond0_1 i) (hC0 : ¬cond0_0 i) (hC1 : cond0_1 i)

/-- The transitions, the start row, the tags and the exponentials' loads of a later point. -/
abbrev ldT : FVec F S128x128 .f32 := k0_pay15 (load arg9 harg9 x8 ![0, 0] inb_S128x128_S128x128_0_0)
abbrev ldSt : FVec F S1x128 .f32 := k0_pay16 (load arg10 harg10 x9 ![0, 0] inb_S1x128_S1x128_0_0)
abbrev ldTag : IVec S128x32 32 := k0_pay14 (load arg5 harg5 x4 ![0, 0, 0] inb_S1x128x32_S1x128x32_0_0_0)
abbrev ldM (a : Memref sig .tc .vmem S128x128 .f32) (h : a.IsWhole) (x : Vec F S128x128 .f32) : FVec F S128x128 .f32 :=
  load a h x ![0, 0] inb_S128x128_S128x128_0_0
abbrev ldE (x : Vec F S32x128x128 .f32) : Vec F S32x128x128 .f32 := load arg17 harg17 x ![0, 0, 0] inb_S32x128x128_S32x128x128_0_0_0

/-- A whole store of a matrix. -/
abbrev put (h : FVec F S128x128 .f32) (L : List (View.Piece (Elt F) S128x128 .f32)) : List (View.Piece (Elt F) S128x128 .f32) :=
  ⟨Rect.unit ![0, 0] S128x128.size inb_S128x128_S128x128_0_0, same h⟩ :: L
/-- A whole store of a column. -/
abbrev put1 (h : FVec F S128x1 .f32) (L : List (View.Piece (Elt F) S128x1 .f32)) : List (View.Piece (Elt F) S128x1 .f32) :=
  ⟨Rect.unit ![0, 0] S128x1.size inb_S128x1_S128x1_0_0, k0_pay1 h⟩ :: L

theorem put_read (v : View sig .tc .vmem S128x128 .f32) (f0 : v.ty.Contents (Elt F)) (h : FVec F S128x128 .f32)
    (L : List (View.Piece (Elt F) S128x128 .f32)) : v.read (Elt F) (v.writes (Elt F) f0 (put h L)) = h :=
  (View.read_writes_full v f0 _ _ L).trans (same_eq h)
theorem put1_read (v : View sig .tc .vmem S128x1 .f32) (f0 : v.ty.Contents (Elt F)) (h : FVec F S128x1 .f32)
    (L : List (View.Piece (Elt F) S128x1 .f32)) : v.read (Elt F) (v.writes (Elt F) f0 (put1 h L)) = h :=
  (View.read_writes_full v f0 _ _ L).trans (p1 h)

/-- The weights and the bias as a point loads them. -/
abbrev ldNext : ℕ → FVec F S1x128x128 .f32 :=
  nextRow (k0_pay9 (load arg6 harg6 x5 ![0, 0] inb_S128x128_S128x128_0_0)) (k0_pay10 (load arg7 harg7 x6 ![0, 0] inb_S128x128_S128x128_0_0))
    (k0_pay11 (load arg8 harg8 x7 ![0, 0] inb_S1x128_S1x128_0_0)) (rowOf arg3 harg3 x2) (rowOf arg4 harg4 x3)

theorem ldNext_eq : ldNext arg3 harg3 arg4 harg4 arg6 harg6 arg7 harg7 arg8 harg8 x2 x3 x5 x6 x7 = nextRow x5 x6 x7 (rowB x2) (rowB x3) := by
  simp only [ldNext, load_eq, rowOf_eq, p9, p10, p11, rowB_eq]

theorem weights_B : sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3 xs4 xs6 = pointW i xs6 x9 xs0 (rowF (k0_pay13 xs4)) := by
  rw [show sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3 xs4 xs6 =
    VS0_0.read (Elt F) (VS0_0.writes (Elt F) VS0_0.junk (put (pointW i (ldM arg19 harg19 xs6) (ldSt arg10 harg10 x9) (ldM arg13 harg13 xs0)
      (rowWhole arg18 (k0_pay13 (ldE arg17 harg17 xs4)))) [])) from by sl_kernel_rfl, put_read]
  simp only [load_eq, rowWhole_eq, p16, rowF_eq]

theorem score_B : sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3 xs4 xs6 = pointS i x8 x9 (k0_pay14 x4) xs1 xs2 (rowF xs4) := by
  rw [show sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3 xs4 xs6 =
    VS0_1.read (Elt F) (VS0_1.writes (Elt F) VS0_1.junk (put (pointS i (ldT arg9 harg9 x8) (ldSt arg10 harg10 x9) (ldTag arg5 harg5 x4)
      (ldM arg14 harg14 xs1) (ldM arg15 harg15 xs2) (rowOf arg17 harg17 xs4)) [])) from by sl_kernel_rfl, put_read]
  simp only [ldTag, load_eq, rowOf_eq, p15, p16, rowF_eq]

theorem hot_B : sout0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3 xs4 xs6 = oneHot (k0_pay14 x4) 31 := by
  rw [show sout0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3 xs4 xs6 =
    VS0_2.read (Elt F) (VS0_2.writes (Elt F) VS0_2.junk (put (oneHot (ldTag arg5 harg5 x4) 31) [])) from by sl_kernel_rfl, put_read]
  simp only [ldTag, load_eq]

theorem logs_B : sout0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3 xs4 xs6 = pointL i xs6 x9 xs0 (rowF (k0_pay13 xs4)) xs3 := by
  rw [show sout0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3 xs4 xs6 =
    VS0_3.read (Elt F) (VS0_3.writes (Elt F) VS0_3.junk (put1 (pointL i (ldM arg19 harg19 xs6) (ldSt arg10 harg10 x9) (ldM arg13 harg13 xs0)
      (rowWhole arg18 (k0_pay13 (ldE arg17 harg17 xs4))) (load arg16 harg16 xs3 ![0, 0] inb_S128x1_S128x1_0_0)) [])) from by sl_kernel_rfl, put1_read]
  simp only [load_eq, rowWhole_eq, p16, rowF_eq]

theorem next_B (r : Fin 32) (p q : Fin 128) : sout0_B_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3 xs4 xs6 (ix3 r p q) = nextRow x5 x6 x7 (rowB x2) (rowB x3) r.val (ix3 0 p q) := by
  rw [show sout0_B_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3 xs4 xs6 =
    VS0_4.read (Elt F) (VS0_4.writes (Elt F) VS0_4.junk (stores (ldNext arg3 harg3 arg4 harg4 arg6 harg6 arg7 harg7 arg8 harg8 x2 x3 x5 x6 x7) [] 32))
    from by sl_kernel_rfl, stores_read _ _ _ _ r p q 32 (Nat.le_refl _) r.isLt, ldNext_eq]

theorem weights_C : sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hC0 hC1 x0 x1 x2 x3 x4 x5 x6 x7 x8 x9 x10 xs0 xs1 xs2 xs3 xs4 xs6 = pointW i xs6 x9 xs0 (rowF (k0_pay13 xs4)) := by
  rw [show sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hC0 hC1 x0 x1 x2 x3 x4 x5 x6 x7 x8 x9 x10 xs0 xs1 xs2 xs3 xs4 xs6 =
    VS0_0.read (Elt F) (VS0_0.writes (Elt F) VS0_0.junk (put (pointW i (ldM arg19 harg19 xs6) (ldSt arg10 harg10 x9) (ldM arg13 harg13 xs0)
      (rowWhole arg18 (k0_pay13 (ldE arg17 harg17 xs4)))) [])) from by sl_kernel_rfl, put_read]
  simp only [load_eq, rowWhole_eq, p16, rowF_eq]

theorem score_C : sout0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hC0 hC1 x0 x1 x2 x3 x4 x5 x6 x7 x8 x9 x10 xs0 xs1 xs2 xs3 xs4 xs6 = pointS i x8 x9 (k0_pay14 x4) xs1 xs2 (rowF xs4) := by
  rw [show sout0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hC0 hC1 x0 x1 x2 x3 x4 x5 x6 x7 x8 x9 x10 xs0 xs1 xs2 xs3 xs4 xs6 =
    VS0_1.read (Elt F) (VS0_1.writes (Elt F) VS0_1.junk (put (pointS i (ldT arg9 harg9 x8) (ldSt arg10 harg10 x9) (ldTag arg5 harg5 x4)
      (ldM arg14 harg14 xs1) (ldM arg15 harg15 xs2) (rowOf arg17 harg17 xs4)) [])) from by sl_kernel_rfl, put_read]
  simp only [ldTag, load_eq, rowOf_eq, p15, p16, rowF_eq]

theorem hot_C : sout0_C_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hC0 hC1 x0 x1 x2 x3 x4 x5 x6 x7 x8 x9 x10 xs0 xs1 xs2 xs3 xs4 xs6 = oneHot (k0_pay14 x4) 31 := by
  rw [show sout0_C_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hC0 hC1 x0 x1 x2 x3 x4 x5 x6 x7 x8 x9 x10 xs0 xs1 xs2 xs3 xs4 xs6 =
    VS0_2.read (Elt F) (VS0_2.writes (Elt F) VS0_2.junk (put (oneHot (ldTag arg5 harg5 x4) 31) [])) from by sl_kernel_rfl, put_read]
  simp only [ldTag, load_eq]

theorem logs_C : sout0_C_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hC0 hC1 x0 x1 x2 x3 x4 x5 x6 x7 x8 x9 x10 xs0 xs1 xs2 xs3 xs4 xs6 = pointL i xs6 x9 xs0 (rowF (k0_pay13 xs4)) xs3 := by
  rw [show sout0_C_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hC0 hC1 x0 x1 x2 x3 x4 x5 x6 x7 x8 x9 x10 xs0 xs1 xs2 xs3 xs4 xs6 =
    VS0_3.read (Elt F) (VS0_3.writes (Elt F) VS0_3.junk (put1 (pointL i (ldM arg19 harg19 xs6) (ldSt arg10 harg10 x9) (ldM arg13 harg13 xs0)
      (rowWhole arg18 (k0_pay13 (ldE arg17 harg17 xs4))) (load arg16 harg16 xs3 ![0, 0] inb_S128x1_S128x1_0_0)) [])) from by sl_kernel_rfl, put1_read]
  simp only [load_eq, rowWhole_eq, p16, rowF_eq]

theorem next_C (r : Fin 32) (p q : Fin 128) : sout0_C_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hC0 hC1 x0 x1 x2 x3 x4 x5 x6 x7 x8 x9 x10 xs0 xs1 xs2 xs3 xs4 xs6 (ix3 r p q) = nextRow x5 x6 x7 (rowB x2) (rowB x3) r.val (ix3 0 p q) := by
  rw [show sout0_C_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hC0 hC1 x0 x1 x2 x3 x4 x5 x6 x7 x8 x9 x10 xs0 xs1 xs2 xs3 xs4 xs6 =
    VS0_4.read (Elt F) (VS0_4.writes (Elt F) VS0_4.junk (stores (ldNext arg3 harg3 arg4 harg4 arg6 harg6 arg7 harg7 arg8 harg8 x2 x3 x5 x6 x7) [] 32))
    from by sl_kernel_rfl, stores_read _ _ _ _ r p q 32 (Nat.le_refl _) r.isLt, ldNext_eq]

/-- What the last point stores in the result: the total of every sequence's score less its logarithm. -/
theorem out_C : out0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hC0 hC1 x0 x1 x2 x3 x4 x5 x6 x7 x8 x9 x10 xs0 xs1 xs2 xs3 xs4 xs6 = k0_pay2 x10 (pointS i x8 x9 (k0_pay14 x4) xs1 xs2 (rowF xs4)) (oneHot (k0_pay14 x4) 31)
    (pointW i xs6 x9 xs0 (rowF (k0_pay13 xs4))) (pointL i xs6 x9 xs0 (rowF (k0_pay13 xs4)) xs3) := by
  rw [show out0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hC0 hC1 x0 x1 x2 x3 x4 x5 x6 x7 x8 x9 x10 xs0 xs1 xs2 xs3 xs4 xs6 =
    VO0_11.read (Elt F) (VO0_11.writes (Elt F) VO0_11.junk [⟨Rect.unit ![0, 0, 0] S1x1x128.size inb_S1x1x128_S1x1x128_0_0_0,
      k0_pay2 (load arg11 harg11 x10 ![0, 0] inb_S1x128_S1x128_0_0)
      (reload arg14 (same (pointS i (ldT arg9 harg9 x8) (ldSt arg10 harg10 x9) (ldTag arg5 harg5 x4)
        (ldM arg14 harg14 xs1) (ldM arg15 harg15 xs2) (rowOf arg17 harg17 xs4))) ![0, 0] inb_S128x128_S128x128_0_0 [])
      (reload arg15 (same (oneHot (ldTag arg5 harg5 x4) 31)) ![0, 0] inb_S128x128_S128x128_0_0 [])
      (reload arg13 (same (pointW i (ldM arg19 harg19 xs6) (ldSt arg10 harg10 x9) (ldM arg13 harg13 xs0)
        (rowWhole arg18 (k0_pay13 (ldE arg17 harg17 xs4))))) ![0, 0] inb_S128x128_S128x128_0_0 [])
      (reload arg16 (k0_pay1 (pointL i (ldM arg19 harg19 xs6) (ldSt arg10 harg10 x9) (ldM arg13 harg13 xs0)
        (rowWhole arg18 (k0_pay13 (ldE arg17 harg17 xs4))) (load arg16 harg16 xs3 ![0, 0] inb_S128x1_S128x1_0_0))) ![0, 0] inb_S128x1_S128x1_0_0 [])⟩])
    from by sl_kernel_rfl]
  refine (View.read_writes_full _ _ _ _ _).trans ?_
  simp only [ldTag, load_eq, rowOf_eq, rowWhole_eq, reload_eq, same_eq, p1, p15, p16, rowF_eq]

/-- The first block's emissions, as the first point computes them. -/
abbrev firstE (x0 x1 : Vec F S32x128x128 .bf16) (x5 x6 : Vec F S128x128 .bf16) (x7 : Vec F S1x128 .f32) : FVec F S32x128x128 .f32 :=
  k0_pay12 x5 x6 x7 (k0_pay8 x0) x1
abbrev ldFirst : FVec F S32x128x128 .f32 :=
  firstE (load arg1 harg1 x0 ![0, 0, 0] inb_S32x128x128_S32x128x128_0_0_0) (load arg2 harg2 x1 ![0, 0, 0] inb_S32x128x128_S32x128x128_0_0_0)
    (load arg6 harg6 x5 ![0, 0] inb_S128x128_S128x128_0_0) (load arg7 harg7 x6 ![0, 0] inb_S128x128_S128x128_0_0) (load arg8 harg8 x7 ![0, 0] inb_S1x128_S1x128_0_0)

theorem ldFirst_eq : ldFirst arg1 harg1 arg2 harg2 arg6 harg6 arg7 harg7 arg8 harg8 x0 x1 x5 x6 x7 = firstE x0 x1 x5 x6 x7 := by
  simp only [ldFirst, load_eq]

/-- A matrix the first point has just stored. -/
abbrev reM (a : Memref sig .tc .vmem S128x128 .f32) (x : FVec F S128x128 .f32) : FVec F S128x128 .f32 :=
  reload a x ![0, 0] inb_S128x128_S128x128_0_0 []

theorem weights_A : sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA0 hA1 x0 x1 x2 x3 x4 x5 x6 x7 x8 x9 x10 = pointW i (k0_pay3 x8) x9 k0_pay4 (rowF (k0_pay13 (firstE x0 x1 x5 x6 x7))) := by
  rw [show sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA0 hA1 x0 x1 x2 x3 x4 x5 x6 x7 x8 x9 x10 =
    VS0_0.read (Elt F) (VS0_0.writes (Elt F) VS0_0.junk (put (pointW i (reM arg19 (k0_pay3 (ldM arg9 harg9 x8))) (ldSt arg10 harg10 x9) (reM arg13 k0_pay4)
      (rowWhole arg18 (k0_pay13 (reload arg17 (ldFirst arg1 harg1 arg2 harg2 arg6 harg6 arg7 harg7 arg8 harg8 x0 x1 x5 x6 x7) ![0, 0, 0]
        inb_S32x128x128_S32x128x128_0_0_0 []))))
      [⟨Rect.unit ![0, 0] S128x128.size inb_S128x128_S128x128_0_0, k0_pay4⟩])) from by sl_kernel_rfl, put_read]
  simp only [ldFirst_eq, load_eq, reload_eq, rowWhole_eq, p16, rowF_eq]

theorem score_A : sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA0 hA1 x0 x1 x2 x3 x4 x5 x6 x7 x8 x9 x10 = pointS i x8 x9 (k0_pay14 x4) k0_pay5 k0_pay6 (rowF (firstE x0 x1 x5 x6 x7)) := by
  rw [show sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA0 hA1 x0 x1 x2 x3 x4 x5 x6 x7 x8 x9 x10 =
    VS0_1.read (Elt F) (VS0_1.writes (Elt F) VS0_1.junk (put (pointS i (ldT arg9 harg9 x8) (ldSt arg10 harg10 x9) (ldTag arg5 harg5 x4)
      (reM arg14 k0_pay5) (reM arg15 k0_pay6)
      (rowCov arg17 (ldNext arg3 harg3 arg4 harg4 arg6 harg6 arg7 harg7 arg8 harg8 x2 x3 x5 x6 x7)
        (ldFirst arg1 harg1 arg2 harg2 arg6 harg6 arg7 harg7 arg8 harg8 x0 x1 x5 x6 x7)))
      [⟨Rect.unit ![0, 0] S128x128.size inb_S128x128_S128x128_0_0, k0_pay5⟩])) from by sl_kernel_rfl, put_read,
    pointS_congr _ _ _ _ _ _ _ (rowF (firstE x0 x1 x5 x6 x7)) fun k hk => (rowCov_eq _ _ _ k (by omega)).trans (by rw [ldFirst_eq]; rfl)]
  simp only [ldTag, load_eq, reload_eq, p15, p16]

theorem hot_A : sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA0 hA1 x0 x1 x2 x3 x4 x5 x6 x7 x8 x9 x10 = oneHot (k0_pay14 x4) 31 := by
  rw [show sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA0 hA1 x0 x1 x2 x3 x4 x5 x6 x7 x8 x9 x10 =
    VS0_2.read (Elt F) (VS0_2.writes (Elt F) VS0_2.junk (put (oneHot (ldTag arg5 harg5 x4) 31)
      [⟨Rect.unit ![0, 0] S128x128.size inb_S128x128_S128x128_0_0, k0_pay6⟩])) from by sl_kernel_rfl, put_read]
  simp only [ldTag, load_eq]

theorem logs_A : sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA0 hA1 x0 x1 x2 x3 x4 x5 x6 x7 x8 x9 x10 = pointL i (k0_pay3 x8) x9 k0_pay4 (rowF (k0_pay13 (firstE x0 x1 x5 x6 x7))) k0_pay7 := by
  rw [show sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA0 hA1 x0 x1 x2 x3 x4 x5 x6 x7 x8 x9 x10 =
    VS0_3.read (Elt F) (VS0_3.writes (Elt F) VS0_3.junk (put1 (pointL i (reM arg19 (k0_pay3 (ldM arg9 harg9 x8))) (ldSt arg10 harg10 x9) (reM arg13 k0_pay4)
      (rowWhole arg18 (k0_pay13 (reload arg17 (ldFirst arg1 harg1 arg2 harg2 arg6 harg6 arg7 harg7 arg8 harg8 x0 x1 x5 x6 x7) ![0, 0, 0]
        inb_S32x128x128_S32x128x128_0_0_0 []))) (reload arg16 k0_pay7 ![0, 0] inb_S128x1_S128x1_0_0 []))
      [⟨Rect.unit ![0, 0] S128x1.size inb_S128x1_S128x1_0_0, k0_pay7⟩])) from by sl_kernel_rfl, put1_read]
  simp only [ldFirst_eq, load_eq, reload_eq, rowWhole_eq, p16, rowF_eq]

theorem next_A (r : Fin 32) (p q : Fin 128) : sout0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA0 hA1 x0 x1 x2 x3 x4 x5 x6 x7 x8 x9 x10 (ix3 r p q) = nextRow x5 x6 x7 (rowB x2) (rowB x3) r.val (ix3 0 p q) := by
  rw [show sout0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA0 hA1 x0 x1 x2 x3 x4 x5 x6 x7 x8 x9 x10 =
    VS0_4.read (Elt F) (VS0_4.writes (Elt F) VS0_4.junk (stores (ldNext arg3 harg3 arg4 harg4 arg6 harg6 arg7 harg7 arg8 harg8 x2 x3 x5 x6 x7)
      [⟨allRect, ldFirst arg1 harg1 arg2 harg2 arg6 harg6 arg7 harg7 arg8 harg8 x0 x1 x5 x6 x7⟩] 32))
    from by sl_kernel_rfl, stores_read _ _ _ _ r p q 32 (Nat.le_refl _) r.isLt, ldNext_eq]

theorem trans_A : sout0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA0 hA1 x0 x1 x2 x3 x4 x5 x6 x7 x8 x9 x10 = k0_pay3 x8 := by
  rw [show sout0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hA0 hA1 x0 x1 x2 x3 x4 x5 x6 x7 x8 x9 x10 =
    VS0_6.read (Elt F) (VS0_6.writes (Elt F) VS0_6.junk [⟨Rect.unit ![0, 0] S128x128.size inb_S128x128_S128x128_0_0, k0_pay3 (ldM arg9 harg9 x8)⟩])
    from by sl_kernel_rfl]
  refine (View.read_writes_full _ _ _ _ _).trans ?_
  simp only [load_eq]

end Run

end Cert.Kernel2Ideal.Val
-- ==== Proof.CrfInv.lean ====
module

public import proofs.«01_k».proof.Proof.CrfStep
public import proofs.«01_k».proof.Proof.CrfReal

/-! One step of the loss kernel over the real numbers: the weights stay the forward sums divided by the exponential of what the
logarithms hold, and each row of the score sums to the tagged path's score. -/

@[expose] public section

set_option maxRecDepth 16384

noncomputable section

namespace Cert.Kernel2Ideal.Val

open Idealize.ShloMosaic Cert.Kernel2Ideal Cert.Kernel2Ideal.Gen Cert.Crf

/-- A matrix of reals. -/
abbrev Mat := FVec Ideal S128x128 .f32

variable (P : Field)

/-- The state's lane. -/
abbrev tl (k : Fin 17) : Fin 128 := ⟨k.val, by omega⟩

/-- The weights at time `t`: the forward sums over `exp L`, zero on the lanes that are no state. -/
def Weights (β : Mat) (t : ℕ) (L : Fin 128 → ℝ) : Prop :=
  ∀ b j, β (ix2 b j) = ((lanes (fun k => Real.exp (P.alpha t b k - L b)) j : ℝ) : EReal)

/-- A row of emissions at time `t`. -/
def Emits (e : FVec Ideal S1x128x128 .f32) (t : ℕ) : Prop := ∀ b j, e (ix3 0 b j) = ((lanes (P.em t b) j : ℝ) : EReal)

/-- A row of the emissions' exponentials at time `t`. -/
def Exps (e : FVec Ideal S1x128x128 .f32) (t : ℕ) : Prop := ∀ b j, e (ix3 0 b j) = ((Real.exp (lanes (P.em t b) j) : ℝ) : EReal)

/-- The transitions on the lanes, zero where either lane is no state. -/
def TransOf (m : Mat) : Prop := ∀ i j, m (ix2 i j) = ((if h : i.val < 17 then lanes (P.tr ⟨i.val, h⟩) j else 0 : ℝ) : EReal)

/-- The transitions' exponentials. -/
def ExpTrans (m : Mat) : Prop :=
  ∀ i j, m (ix2 i j) = ((if h : i.val < 17 then lanes (fun k => Real.exp (P.tr ⟨i.val, h⟩ k)) j else 0 : ℝ) : EReal)

/-- A row of seventeen numbers on the lanes. -/
def RowOf (x : FVec Ideal S1x128 .f32) (f : Fin 17 → ℝ) : Prop := ∀ j, x (ix2 0 j) = ((lanes f j : ℝ) : EReal)

/-- The lanes of the tags at time `t`. -/
def Hot (m : Mat) (t : ℕ) : Prop := ∀ b j, m (ix2 b j) = ((if j = tl (P.tag t b) then 1 else 0 : ℝ) : EReal)

/-- A score whose rows sum to the tagged path's score up to time `t`. -/
def Scores (a : Mat) (t : ℕ) : Prop :=
  ∃ A : Fin 128 → Fin 128 → ℝ, (∀ b j, a (ix2 b j) = ((A b j : ℝ) : EReal)) ∧ ∀ b, ∑ j, A b j = P.score t b

/-- A column of reals. -/
def Column (l : FVec Ideal S128x1 .f32) (L : Fin 128 → ℝ) : Prop := ∀ b, l (ix2 b 0) = ((L b : ℝ) : EReal)

variable {P}

/-- The weights after one more step, as a sum over the states. -/
theorem weights_sum {β etr : Mat} {t : ℕ} {L : Fin 128 → ℝ} (hβ : Weights P β t L) (hT : ExpTrans P etr) (b j : Fin 128) :
    ∑ x, β (ix2 b x) * etr (ix2 x j)
      = ((lanes (fun k => ∑ i, Real.exp (P.alpha t b i - L b) * Real.exp (P.tr i k)) j : ℝ) : EReal) := by
  simp only [hβ b, fun i => hT i j, ← EReal.coe_mul, coe_sum]
  refine congrArg Real.toEReal ?_
  by_cases hj : j.val < 17
  · rw [lanes_lt _ j hj]
    refine sum_lanes _ _ (fun i => ?_) fun i hi => ?_
    · rw [lanes_lt _ _ (show (⟨i.val, by omega⟩ : Fin 128).val < 17 from i.isLt), dif_pos (show (⟨i.val, by omega⟩ : Fin 128).val < 17 from i.isLt), lanes_lt _ j hj]
    · rw [lanes_ge _ i hi, zero_mul]
  · rw [lanes_ge _ j hj]
    refine Finset.sum_eq_zero fun i _ => ?_
    by_cases hi : i.val < 17
    · rw [dif_pos hi, lanes_ge _ j hj, mul_zero]
    · rw [dif_neg hi, mul_zero]

theorem step_real (t : ℕ) (b j : Fin 128) (L : ℝ) :
    lanes (fun k => ∑ i, Real.exp (P.alpha t b i - L) * Real.exp (P.tr i k)) j * Real.exp (lanes (P.em (t + 1) b) j)
      = lanes (fun k => Real.exp (P.alpha (t + 1) b k - L)) j := by
  by_cases hj : j.val < 17
  · rw [lanes_lt _ j hj, lanes_lt _ j hj, lanes_lt _ j hj, weigh_real]
  · rw [lanes_ge _ j hj, lanes_ge _ j hj, zero_mul, lanes_ge _ j hj]

/-- One step of the weights. -/
theorem weigh_inv {β etr : Mat} {ee : FVec Ideal S1x128x128 .f32} {t : ℕ} {L : Fin 128 → ℝ} (hβ : Weights P β t L)
    (hT : ExpTrans P etr) (he : Exps P ee (t + 1)) : Weights P (weigh etr β ee) (t + 1) L := by
  intro b j
  have e : weigh etr β ee (ix2 b j) = (∑ x, β (ix2 b x) * etr (ix2 x j)) * ee (ix3 0 b j) := by pointwise [weigh, prod, mat]
  rw [e, weights_sum hβ hT, he, ← EReal.coe_mul, step_real]

theorem ofBits_bot : Ideal.ofBits FTy.f32 4286578688#32 = ⊥ := by
  simp [Ideal.ofBits, Ideal.ieee]

/-- Each row's largest weight is a positive real. -/
theorem top_inv {β : Mat} {t : ℕ} {L : Fin 128 → ℝ} (hβ : Weights P β t L) :
    ∃ r : Fin 128 → ℝ, (∀ b, 0 < r b) ∧ Column (top β) r := by
  have h : ∀ b : Fin 128, ∃ r : ℝ, 0 < r ∧ top β (ix2 b 0) = (r : EReal) := fun b => by
    obtain ⟨r, hr, hm⟩ := max_real fun j => lanes (fun k => Real.exp (P.alpha t b k - L b)) j
    refine ⟨r, lt_of_lt_of_le (Real.exp_pos (P.alpha t b 0 - L b)) ?_, ?_⟩
    · have := hm 0
      rwa [lanes_lt _ _ (show (0 : Fin 128).val < 17 by decide)] at this
    · have e : top β (ix2 b 0) = Finset.univ.fold max (Ideal.ofBits FTy.f32 4286578688#32) (fun x => β (ix2 b x)) := by pointwise [top]
      rw [e, ofBits_bot, ← hr]
      exact congrArg (fun f => Finset.univ.fold max (⊥ : EReal) f) (funext fun x => hβ b x)
  choose r hr using h
  exact ⟨r, fun b => (hr b).1, fun b => (hr b).2⟩

/-- The weights over the largest: the logarithm of the largest moves into `L`. -/
theorem normed_inv {β : Mat} {t : ℕ} {L r : Fin 128 → ℝ} (hβ : Weights P β t L) (hr : ∀ b, 0 < r b) (ht : Column (top β) r) :
    Weights P (normed β) t (fun b => L b + Real.log (r b)) := by
  intro b j
  have e : normed β (ix2 b j) = β (ix2 b j) * Ideal.div 1 (top β (ix2 b 0)) := by pointwise [normed]
  rw [e, hβ, ht, Ideal.div_coe (hr b).ne', one_mul, ← EReal.coe_mul]
  refine congrArg Real.toEReal ?_
  by_cases hj : j.val < 17
  · rw [lanes_lt _ j hj, lanes_lt _ j hj, norm_real _ _ _ (hr b)]
  · rw [lanes_ge _ j hj, lanes_ge _ j hj, zero_mul]

/-- The logarithm of a column of positive reals. -/
theorem log_inv {l x : FVec Ideal S128x1 .f32} {L r : Fin 128 → ℝ} (hl : Column l L) (hr : ∀ b, 0 < r b) (hx : Column x r) :
    Column (addf l (log x)) (fun b => L b + Real.log (r b)) := by
  intro b
  have e : addf l (log x) (ix2 b 0) = l (ix2 b 0) + Ideal.log (x (ix2 b 0)) := rfl
  rw [e, hl, hx, Ideal.log_coe, if_neg (not_le.2 (hr b)), ← EReal.coe_add]

/-- Four steps' weights, with what the logarithms hold then. -/
theorem groups_inv {etr b : Mat} {ee : ℕ → FVec Ideal S1x128x128 .f32} {l : FVec Ideal S128x1 .f32} {t : ℕ} (hT : ExpTrans P etr)
    (he : ∀ n, n < 32 → Exps P (ee n) (t + n)) (h0 : ∃ L, Weights P b t L ∧ Column l L) :
    ∀ g, g < 8 → ∃ L, Weights P (weightAt etr ee b g) (t + (4 * g + 3)) L ∧ Column (logAt etr ee b l g) L
  | 0, _ => by
    obtain ⟨L, hb, hl⟩ := h0
    exact ⟨L, weigh_inv (weigh_inv (weigh_inv hb hT (he 1 (by omega))) hT (he 2 (by omega))) hT (he 3 (by omega)), hl⟩
  | g + 1, hg => by
    obtain ⟨L, hb, hl⟩ := groups_inv hT he h0 g (by omega)
    obtain ⟨r, hr, hm⟩ := top_inv hb
    refine ⟨fun b => L b + Real.log (r b), ?_, log_inv hl hr hm⟩
    have h4 := weigh_inv (normed_inv hb hr hm) hT (he (4 * g + 4) (by omega))
    exact weigh_inv (weigh_inv (weigh_inv h4 hT (he (4 * g + 4 + 1) (by omega))) hT (he (4 * g + 4 + 2) (by omega))) hT (he (4 * g + 4 + 3) (by omega))

/-- The weights and the logarithms after thirty-two steps. -/
theorem block_inv {etr b : Mat} {ee : ℕ → FVec Ideal S1x128x128 .f32} {l : FVec Ideal S128x1 .f32} {t : ℕ} (hT : ExpTrans P etr)
    (he : ∀ n, n < 32 → Exps P (ee n) (t + n)) (h0 : ∃ L, Weights P b t L ∧ Column l L) :
    ∃ L, Weights P (normed (weightAt etr ee b 7)) (t + 31) L ∧ Column (logAt etr ee b l 8) L := by
  obtain ⟨L, hb, hl⟩ := groups_inv hT he h0 7 (by omega)
  obtain ⟨r, hr, hm⟩ := top_inv hb
  exact ⟨fun b => L b + Real.log (r b), normed_inv hb hr hm, log_inv hl hr hm⟩

/-- A tag's lanes. -/
theorem hot_inv {tg : IVec S128x32 32} {n t : ℕ} (hn : n < 32) (h : ∀ b, tg (ix2 b ⟨n, hn⟩) = BitVec.ofNat 32 (P.tag t b).val) :
    Hot P (oneHot tg n) t := by
  intro b j
  have e : oneHot (F := Ideal) tg n (ix2 b j)
      = FloatOps.sitofp (F := Ideal) FTy.f32 (BitVec.setWidth 32 (IntOp.cmpi CmpIPredicate.eq (BitVec.ofNat 32 j.val) (tg (ix2 b ⟨n % 32, Nat.mod_lt _ (by decide)⟩)))) := by
    pointwise [oneHot, lane]
  rw [e, show (⟨n % 32, Nat.mod_lt _ (by decide)⟩ : Fin 32) = ⟨n, hn⟩ from Fin.ext (Nat.mod_eq_of_lt hn), h]
  show ((BitVec.toInt _ : ℝ) : EReal) = _
  refine congrArg Real.toEReal ?_
  have hk := (P.tag t b).isLt
  by_cases hj : j = tl (P.tag t b)
  · rw [if_pos hj, hj]
    simp [IntOp.cmpi]
  · rw [if_neg hj]
    have : BitVec.ofNat 32 j.val ≠ BitVec.ofNat 32 (P.tag t b).val := fun hh => hj (Fin.ext (by
      have := congrArg BitVec.toNat hh
      simp only [BitVec.toNat_ofNat] at this
      show j.val = (P.tag t b).val
      omega))
    simp [IntOp.cmpi, beq_false_of_ne this]

/-- The transitions from the tags' lanes. -/
theorem from_hot {p trm : Mat} {t : ℕ} (hp : Hot P p t) (hM : TransOf P trm) (b j : Fin 128) :
    ∑ x, p (ix2 b x) * trm (ix2 x j) = ((lanes (P.tr (P.tag t b)) j : ℝ) : EReal) := by
  simp only [hp b, fun i => hM i j, ← EReal.coe_mul, coe_sum]
  refine congrArg Real.toEReal ?_
  rw [Finset.sum_eq_single (tl (P.tag t b)) (fun x _ hx => by rw [if_neg hx, zero_mul]) fun h => absurd (Finset.mem_univ _) h,
    if_pos rfl, one_mul, dif_pos (show (tl (P.tag t b)).val < 17 from (P.tag t b).isLt)]

/-- What a step adds to the score, kept at the tags' lanes. -/
theorem add_hot {a oh : Mat} {A : Fin 128 → Fin 128 → ℝ} {t : ℕ} (f : Fin 128 → Fin 128 → ℝ) (s : Fin 128 → ℝ)
    (hA : ∀ b j, a (ix2 b j) = ((A b j : ℝ) : EReal)) (hs : ∀ b, ∑ j, A b j = s b) (hoh : Hot P oh t)
    {a' : Mat} (h : ∀ b j, a' (ix2 b j) = a (ix2 b j) + ((f b j : ℝ) : EReal) * oh (ix2 b j)) :
    ∃ A' : Fin 128 → Fin 128 → ℝ, (∀ b j, a' (ix2 b j) = ((A' b j : ℝ) : EReal)) ∧ ∀ b, ∑ j, A' b j = s b + f b (tl (P.tag t b)) := by
  refine ⟨fun b j => A b j + f b j * (if j = tl (P.tag t b) then 1 else 0), fun b j => ?_, fun b => ?_⟩
  · rw [h, hA, hoh, ← EReal.coe_mul, ← EReal.coe_add]
  · rw [Finset.sum_add_distrib, hs, sum_hot]

/-- One step of the score. -/
theorem score_inv {trm a p oh : Mat} {e : FVec Ideal S1x128x128 .f32} {t : ℕ} (hM : TransOf P trm) (ha : Scores P a t) (hp : Hot P p t)
    (hoh : Hot P oh (t + 1)) (he : Emits P e (t + 1)) : Scores P (scoreStep trm a p oh e) (t + 1) := by
  obtain ⟨A, hA, hs⟩ := ha
  obtain ⟨A', h1, h2⟩ := add_hot (fun b j => lanes (P.em (t + 1) b) j + lanes (P.tr (P.tag t b)) j) _ hA hs hoh (a' := scoreStep trm a p oh e)
    fun b j => by
      have e' : scoreStep trm a p oh e (ix2 b j)
          = a (ix2 b j) + (e (ix3 0 b j) + ∑ x, p (ix2 b x) * trm (ix2 x j)) * oh (ix2 b j) := by pointwise [scoreStep, prod, mat]
      rw [e', he, from_hot hp hM, ← EReal.coe_add]
  refine ⟨A', h1, fun b => (h2 b).trans ?_⟩
  rw [lanes_lt _ _ (show (tl (P.tag (t + 1) b)).val < 17 from (P.tag (t + 1) b).isLt), lanes_lt _ _ (show (tl (P.tag (t + 1) b)).val < 17 from (P.tag (t + 1) b).isLt)]
  show P.score t b + _ = P.score t b + _
  rw [add_comm (P.em _ _ _)]

/-- The score after `n` more steps of a point. -/
theorem scores_inv {trm a : Mat} {tg : IVec S128x32 32} {em : ℕ → FVec Ideal S1x128x128 .f32} {t : ℕ} (hM : TransOf P trm)
    (ht : ∀ n (hn : n < 32) b, tg (ix2 b ⟨n, hn⟩) = BitVec.ofNat 32 (P.tag (t + n) b).val)
    (he : ∀ n, n < 32 → Emits P (em n) (t + n)) (ha : Scores P a t) : ∀ n, n < 32 → Scores P (scoreAt trm tg em a n) (t + n)
  | 0, _ => ha
  | n + 1, hn => score_inv hM (scores_inv hM ht he ha n (by omega)) (hot_inv (by omega) (ht n (by omega))) (hot_inv hn (ht (n + 1) hn)) (he (n + 1) hn)

end Cert.Kernel2Ideal.Val
-- ==== Proof.CrfPoint.lean ====
module

public import proofs.«01_k».proof.Proof.CrfBlock
public import proofs.«01_k».proof.Proof.CrfInv

/-! One grid point of the loss kernel over the real numbers: what its carried buffers hold afterwards, and what the last point
writes. -/

@[expose] public section

set_option maxRecDepth 16384

noncomputable section

namespace Cert.Kernel2Ideal.Val

open Idealize.ShloMosaic Cert.Kernel2Ideal Cert.Kernel2Ideal.Gen Cert.Crf
open Idealize.ShloMosaic.ValueIdx (select_one select_zero)

/-! ## The emissions -/

/-- Half of the emission weights on the lanes. -/
def Weight (x : FVec Ideal S128x128 .bf16) (w : Fin 17 → Fin 128 → ℝ) : Prop :=
  ∀ i j, x (ix2 i j) = ((lanes (fun k => w k i) j : ℝ) : EReal)

/-- A row of states. -/
def States (x : FVec Ideal S1x128x128 .bf16) (h : Fin 128 → Fin 128 → ℝ) : Prop := ∀ b j, x (ix3 0 b j) = ((h b j : ℝ) : EReal)

theorem emission (D : Data) (t : ℕ) (b j : Fin 128) :
    (∑ x, D.hf t b x * lanes (fun k => D.wf k x) j) + (∑ x, D.hb t b x * lanes (fun k => D.wb k x) j) + lanes D.bias j
      = lanes (D.field.em t b) j := by
  by_cases hj : j.val < 17
  · simp only [lanes_lt _ j hj]; rfl
  · simp only [lanes_ge _ j hj, mul_zero, Finset.sum_const_zero, add_zero]

theorem products {x y : Fin 128 → EReal} {f g : Fin 128 → ℝ} (hx : ∀ i, x i = (f i : EReal)) (hy : ∀ i, y i = (g i : EReal)) :
    ∑ i, x i * y i = ((∑ i, f i * g i : ℝ) : EReal) := by
  simp only [hx, hy, ← EReal.coe_mul, coe_sum]

variable {D : Data} {x5 x6 : FVec Ideal S128x128 .bf16} {x7 : FVec Ideal S1x128 .f32}

/-- A row of the emissions computed ahead. -/
theorem next_inv {f g : ℕ → FVec Ideal S1x128x128 .bf16} {n t : ℕ} (h5 : Weight x5 D.wf) (h6 : Weight x6 D.wb) (h7 : RowOf x7 D.bias)
    (hf : States (f n) (D.hf t)) (hg : States (g n) (D.hb t)) : Emits D.field (nextRow x5 x6 x7 f g n) t := by
  intro b j
  have e : nextRow x5 x6 x7 f g n (ix3 0 b j)
      = (∑ x, f n (ix3 0 b x) * x5 (ix2 x j)) + (∑ x, g n (ix3 0 b x) * x6 (ix2 x j)) + x7 (ix2 0 j) := by
    pointwise [nextRow, row, emit, prod, mat]
  rw [e, products (hf b) (fun x => h5 x j), products (hg b) (fun x => h6 x j), h7, ← EReal.coe_add, ← EReal.coe_add, emission]

/-- A row of the first point's emissions. -/
theorem first_inv {x0 x1 : FVec Ideal S32x128x128 .bf16} {n t : ℕ} (h5 : Weight x5 D.wf) (h6 : Weight x6 D.wb) (h7 : RowOf x7 D.bias)
    (hf : States (rowB x0 n) (D.hf t)) (hg : States (rowB x1 n) (D.hb t)) : Emits D.field (rowF (firstE x0 x1 x5 x6 x7) n) t := by
  intro b j
  have e : ∀ k : Fin 32, firstE (F := Ideal) x0 x1 x5 x6 x7 (ix3 k b j)
      = (∑ x, x0 (ix3 k b x) * x5 (ix2 x j)) + (∑ x, x1 (ix3 k b x) * x6 (ix2 x j)) + x7 (ix2 0 j) := fun k => by
    pointwise [firstE, k0_pay12, k0_pay8, k0_pay9, k0_pay10, k0_pay11]
  refine (e ⟨n % 32, Nat.mod_lt _ (by decide)⟩).trans ?_
  rw [products (x := fun x => x0 (ix3 _ b x)) (hf b) (fun x => h5 x j), products (x := fun x => x1 (ix3 _ b x)) (hg b) (fun x => h6 x j), h7, ← EReal.coe_add, ← EReal.coe_add, emission]

variable {P : Field}

/-- The emissions' exponentials. -/
theorem exps_inv {e : FVec Ideal S32x128x128 .f32} {n t : ℕ} (h : Emits P (rowF e n) t) : Exps P (rowF (k0_pay13 e) n) t := by
  intro b j
  have e' : ∀ k : Fin 32, k0_pay13 (F := Ideal) e (ix3 k b j) = Ideal.exp (e (ix3 k b j)) := fun k => by pointwise [k0_pay13]
  refine (e' ⟨n % 32, Nat.mod_lt _ (by decide)⟩).trans ?_
  rw [show e (ix3 ⟨n % 32, Nat.mod_lt _ (by decide)⟩ b j) = _ from h b j, Ideal.exp_coe]

/-! ## The transitions' exponentials -/

theorem lane_lt (j : Fin 128) : IntOp.cmpi CmpIPredicate.slt (BitVec.ofNat 32 j.val) 17#32 = BitVec.ofBool (decide (j.val < 17)) := by
  revert j; decide

theorem exptrans_inv {x8 : Mat} (h : TransOf P x8) : ExpTrans P (k0_pay3 x8) := by
  intro i j
  have e : k0_pay3 (F := Ideal) x8 (ix2 i j) = Scalar.select (IntOp.andi (IntOp.cmpi .slt (BitVec.ofNat 32 i.val) 17#32)
      (IntOp.cmpi .slt (BitVec.ofNat 32 j.val) 17#32)) (Ideal.exp (x8 (ix2 i j))) 0 := by pointwise [k0_pay3]
  rw [e, lane_lt, lane_lt, h]
  by_cases hi : i.val < 17 <;> by_cases hj : j.val < 17 <;> simp [hi, hj, lanes, IntOp.andi, select_one, select_zero]

/-! ## The first step of a point -/

theorem point_first {i : grid0.Coords} (h : (i 0).val = 0) : Scalar.cmpi CmpIPredicate.eq (BitVec.ofNat 32 (i 0).val) 0#32 = 1#1 := by
  rw [h]; rfl
theorem point_later {i : grid0.Coords} (h : (i 0).val ≠ 0) (hl : (i 0).val < 16) :
    Scalar.cmpi CmpIPredicate.eq (BitVec.ofNat 32 (i 0).val) 0#32 = 0#1 := by
  generalize (i 0).val = n at h hl
  have : ∀ k : Fin 16, k.val ≠ 0 → Scalar.cmpi CmpIPredicate.eq (BitVec.ofNat 32 k.val) 0#32 = 0#1 := by decide
  exact this ⟨n, hl⟩ h

theorem firstW_at (i : grid0.Coords) (etr : Mat) (st : FVec Ideal S1x128 .f32) (b : Mat) (ee : ℕ → FVec Ideal S1x128x128 .f32) (p j : Fin 128) :
    firstW i etr st b ee (ix2 p j) = Scalar.select (Scalar.cmpi .eq (BitVec.ofNat 32 (i 0).val) 0#32)
      (Scalar.select (IntOp.cmpi .slt (BitVec.ofNat 32 j.val) 17#32) (Ideal.exp (st (ix2 0 j)) * ee 0 (ix3 0 p j)) 0)
      ((∑ x, b (ix2 p x) * etr (ix2 x j)) * ee 0 (ix3 0 p j)) := by
  pointwise [firstW, k0_pay19, lane]

/-- The first weights of all. -/
theorem firstW_zero {i : grid0.Coords} (hi : (i 0).val = 0) {etr b : Mat} {st : FVec Ideal S1x128 .f32} {ee : ℕ → FVec Ideal S1x128x128 .f32}
    (hst : RowOf st P.st) (he : Exps P (ee 0) 0) : Weights P (firstW i etr st b ee) 0 (fun _ => 0) := by
  intro p j
  rw [firstW_at, point_first hi, select_one, lane_lt, hst, he]
  by_cases hj : j.val < 17
  · simp only [hj, decide_true, lanes_lt _ j hj, Ideal.exp_coe, sub_zero]
    rw [show BitVec.ofBool true = 1#1 from rfl, select_one, ← EReal.coe_mul, ← Real.exp_add]
    rfl
  · simp only [hj, decide_false, lanes_ge _ j hj]
    rw [show BitVec.ofBool false = 0#1 from rfl, select_zero]
    rfl

/-- The first weights of a later point: one step on from what the point before left. -/
theorem firstW_next {i : grid0.Coords} (hi : (i 0).val ≠ 0) (hl : (i 0).val < 16) {etr b : Mat} {st : FVec Ideal S1x128 .f32}
    {ee : ℕ → FVec Ideal S1x128x128 .f32} {t : ℕ} {L : Fin 128 → ℝ} (hT : ExpTrans P etr) (hb : Weights P b t L)
    (he : Exps P (ee 0) (t + 1)) : Weights P (firstW i etr st b ee) (t + 1) L := by
  intro p j
  rw [firstW_at, point_later hi hl, select_zero, weights_sum hb hT, he, ← EReal.coe_mul, step_real]

/-- The tags' lanes at a point's first step. -/
theorem pay17_eq (tg : IVec S128x32 32) : k0_pay17 (F := Ideal) lane tg = oneHot tg 0 := by
  funext y; obtain ⟨p, q, rfl⟩ : ∃ p q, y = ix2 p q := ⟨y 0, y 1, by idx_vars y⟩
  pointwise [k0_pay17, oneHot, lane]

theorem firstS_at (i : grid0.Coords) (tg : IVec S128x32 32) (trm : Mat) (st : FVec Ideal S1x128 .f32) (a p : Mat)
    (e : FVec Ideal S1x128x128 .f32) (b j : Fin 128) :
    k0_pay18 (BitVec.ofNat 32 (i 0).val) lane tg trm st a p e (ix2 b j)
      = a (ix2 b j) + (e (ix3 0 b j) + Scalar.select (Scalar.cmpi .eq (BitVec.ofNat 32 (i 0).val) 0#32) (st (ix2 0 j))
          (∑ x, p (ix2 b x) * trm (ix2 x j))) * k0_pay17 (F := Ideal) lane tg (ix2 b j) := by
  pointwise [k0_pay18]

/-- The first score of all, added to zeros. -/
theorem firstS_zero {i : grid0.Coords} (hi : (i 0).val = 0) {tg : IVec S128x32 32} {trm a p : Mat} {st : FVec Ideal S1x128 .f32}
    {e : FVec Ideal S1x128x128 .f32} (hst : RowOf st P.st) (he : Emits P e 0) (ha : ∀ b j, a (ix2 b j) = 0)
    (hoh : Hot P (oneHot tg 0) 0) : Scores P (k0_pay18 (BitVec.ofNat 32 (i 0).val) lane tg trm st a p e) 0 := by
  obtain ⟨A', h1, h2⟩ := add_hot (A := fun _ _ => 0) (fun b j => lanes (P.em 0 b) j + lanes P.st j) (fun _ => 0) ha (fun b => by simp) hoh
    (a' := k0_pay18 (BitVec.ofNat 32 (i 0).val) lane tg trm st a p e) fun b j => by
      rw [firstS_at, point_first hi, select_one, he, hst, ← EReal.coe_add, pay17_eq]
  refine ⟨A', h1, fun b => (h2 b).trans ?_⟩
  rw [lanes_lt _ _ (show (tl (P.tag 0 b)).val < 17 from (P.tag 0 b).isLt), lanes_lt _ _ (show (tl (P.tag 0 b)).val < 17 from (P.tag 0 b).isLt)]
  show (0 : ℝ) + _ = P.st _ + P.em _ _ _
  rw [zero_add, add_comm]

/-- The first score of a later point. -/
theorem firstS_next {i : grid0.Coords} (hi : (i 0).val ≠ 0) (hl : (i 0).val < 16) {tg : IVec S128x32 32} {trm a p : Mat}
    {st : FVec Ideal S1x128 .f32} {e : FVec Ideal S1x128x128 .f32} {t : ℕ} (hM : TransOf P trm) (ha : Scores P a t) (hp : Hot P p t)
    (he : Emits P e (t + 1)) (hoh : Hot P (oneHot tg 0) (t + 1)) :
    Scores P (k0_pay18 (BitVec.ofNat 32 (i 0).val) lane tg trm st a p e) (t + 1) := by
  have h := score_inv hM ha hp hoh he
  refine (show k0_pay18 (BitVec.ofNat 32 (i 0).val) lane tg trm st a p e = scoreStep trm a p (oneHot tg 0) e from ?_) ▸ h
  funext y; obtain ⟨b, j, rfl⟩ : ∃ p q, y = ix2 p q := ⟨y 0, y 1, by idx_vars y⟩
  rw [firstS_at, point_later hi hl, select_zero, pay17_eq]
  exact (by pointwise [scoreStep, prod, mat] : scoreStep trm a p (oneHot tg 0) e (ix2 b j)
    = a (ix2 b j) + (e (ix3 0 b j) + ∑ x, p (ix2 b x) * trm (ix2 x j)) * oneHot (F := Ideal) tg 0 (ix2 b j)).symm

/-! ## A point -/

/-- The tags of a point's thirty-two times from `t` on. -/
def Tags (P : Field) (tg : IVec S128x32 32) (t : ℕ) : Prop :=
  ∀ n (hn : n < 32) b, tg (ix2 b ⟨n, hn⟩) = BitVec.ofNat 32 (P.tag (t + n) b).val

/-- What the weights, the logarithms, the score and the last tags hold at time `t`. -/
structure Carried (P : Field) (w s h : Mat) (l : FVec Ideal S128x1 .f32) (t : ℕ) : Prop where
  weights : ∃ L, Weights P w t L ∧ Column l L
  score : Scores P s t
  hot : Hot P h t

variable {i : grid0.Coords} {etr trm a p b : Mat} {st : FVec Ideal S1x128 .f32} {tg : IVec S128x32 32}
  {em ee : ℕ → FVec Ideal S1x128x128 .f32} {l : FVec Ideal S128x1 .f32}

/-- What the first point leaves. -/
theorem point_zero (hi : (i 0).val = 0) (hT : ExpTrans P etr) (hM : TransOf P trm) (hst : RowOf st P.st) (ht : Tags P tg 0)
    (hem : ∀ n, n < 32 → Emits P (em n) n) (hee : ∀ n, n < 32 → Exps P (ee n) n) (ha : ∀ b j, a (ix2 b j) = 0)
    (hl : ∀ b, l (ix2 b 0) = 0) :
    Carried P (pointW i etr st b ee) (pointS i trm st tg a p em) (oneHot tg 31) (pointL i etr st b ee l) 31 := by
  have c := block_inv (l := l) (t := 0) hT (fun n hn => by rw [Nat.zero_add]; exact hee n hn)
    ⟨_, firstW_zero (etr := etr) (b := b) hi hst (hee 0 (by decide)), hl⟩
  have s := scores_inv (t := 0) hM ht (fun n hn => by rw [Nat.zero_add]; exact hem n hn)
    (firstS_zero (trm := trm) (p := p) hi hst (hem 0 (by decide)) ha (hot_inv (by decide) (ht 0 (by decide)))) 31 (by decide)
  exact ⟨c, s, hot_inv (by decide) (ht 31 (by decide))⟩

/-- What a later point leaves. -/
theorem point_next (hi : (i 0).val ≠ 0) (hlt : (i 0).val < 16) {t : ℕ} (hT : ExpTrans P etr) (hM : TransOf P trm)
    (ht : Tags P tg (t + 1)) (hem : ∀ n, n < 32 → Emits P (em n) (t + 1 + n)) (hee : ∀ n, n < 32 → Exps P (ee n) (t + 1 + n))
    (h : Carried P b a p l t) :
    Carried P (pointW i etr st b ee) (pointS i trm st tg a p em) (oneHot tg 31) (pointL i etr st b ee l) (t + 1 + 31) := by
  obtain ⟨L, hw, hl⟩ := h.weights
  have c := block_inv (l := l) (t := t + 1) hT hee ⟨L, firstW_next (st := st) hi hlt hT hw (hee 0 (by decide)), hl⟩
  have s := scores_inv (t := t + 1) hM ht hem
    (firstS_next (st := st) hi hlt hM h.score h.hot (hem 0 (by decide)) (hot_inv (by decide) (ht 0 (by decide)))) 31 (by decide)
  exact ⟨c, s, hot_inv (by decide) (ht 31 (by decide))⟩

/-- What the last point writes: the sum of the log-likelihoods. -/
theorem total {x10 : FVec Ideal S1x128 .f32} {w s h : Mat} (hen : RowOf x10 P.en) (c : Carried P w s h l 511) (q : Fin 128) :
    k0_pay2 (F := Ideal) x10 s h w l (ix3 0 0 q) = ((∑ b, P.llh b : ℝ) : EReal) := by
  obtain ⟨L, hw, hl⟩ := c.weights
  obtain ⟨A, hA, hs⟩ := c.score
  have hen' : ∀ j, x10 (ix2 0 j) = ((lanes P.en j : ℝ) : EReal) := hen
  have e : k0_pay2 (F := Ideal) x10 s h w l (ix3 0 0 q) = ∑ b, ∑ _ : Fin 1, ((∑ j, (s (ix2 b j) + h (ix2 b j) * x10 (ix2 0 j)))
      - (l (ix2 b 0) + Ideal.log (∑ j, w (ix2 b j) * Ideal.exp (x10 (ix2 0 j))))) := by pointwise [k0_pay2]
  rw [e]
  simp only [Finset.univ_unique, Finset.sum_singleton]
  rw [← coe_sum]
  refine Finset.sum_congr rfl fun b _ => ?_
  have e1 : ∑ j, (s (ix2 b j) + h (ix2 b j) * x10 (ix2 0 j)) = ((P.score 511 b + P.en (P.tag 511 b) : ℝ) : EReal) := by
    simp only [hA b, c.hot b, hen', ← EReal.coe_mul, ← EReal.coe_add, coe_sum]
    refine congrArg Real.toEReal ?_
    rw [Finset.sum_add_distrib, hs]
    refine congrArg (P.score 511 b + ·) ?_
    rw [Finset.sum_congr rfl fun j _ => mul_comm _ _, sum_hot, lanes_lt _ _ (show (tl (P.tag 511 b)).val < 17 from (P.tag 511 b).isLt)]
  have e2 : ∑ j, w (ix2 b j) * Ideal.exp (x10 (ix2 0 j)) = ((∑ j, Real.exp (P.alpha 511 b j - L b) * Real.exp (P.en j) : ℝ) : EReal) := by
    simp only [hw b, hen', Ideal.exp_coe, ← EReal.coe_mul, coe_sum]
    refine congrArg Real.toEReal (sum_lanes _ _ (fun k => ?_) fun k hk => ?_)
    · rw [lanes_lt _ _ (show (⟨k.val, by omega⟩ : Fin 128).val < 17 from k.isLt), lanes_lt _ _ (show (⟨k.val, by omega⟩ : Fin 128).val < 17 from k.isLt)]
    · rw [lanes_ge _ k hk, zero_mul]
  have pos : 0 < ∑ j, Real.exp (P.alpha 511 b j - L b) * Real.exp (P.en j) :=
    Finset.sum_pos (fun j _ => mul_pos (Real.exp_pos _) (Real.exp_pos _)) ⟨0, Finset.mem_univ _⟩
  rw [e1, e2, hl, Ideal.log_coe, if_neg (not_le.2 pos), ← EReal.coe_add, final_real, ← EReal.coe_sub]
  rfl

end Cert.Kernel2Ideal.Val
-- ==== Proof.CrfArray.lean ====
module

public import proofs.«01_k».proof.Proof.CrfPoint
public import Idealize.ShloMosaic.Lib.Pipeline.ValueKit
public import Idealize.ShloMosaic.Lib.StableHlo.ReadAt

/-! What the loss kernel's result array holds: the sum of the log-likelihoods, from the buffers carried over the grid. -/

@[expose] public section

set_option maxRecDepth 16384

noncomputable section

namespace Cert.Kernel2Ideal.Val

open Idealize.ShloMosaic Idealize.ShloMosaic.TcCoe Idealize.SL.Sem Cert.Kernel2Ideal Cert.Kernel2Ideal.Gen Cert.Crf
open Idealize.ShloMosaic.Pipeline (Dat)

variable (m : (ℓ : Loc nD τ sig) → Buf (Elt Ideal) ℓ)

/-- An argument array of device `c`. -/
abbrev arg (c : Dev nD) (r : Ref sig .tc) : Buf (Elt Ideal) ((c.tc : Thread nD τ).loc r) := m ((c.tc : Thread nD τ).loc r)

/-- Device `c`'s arguments hold these real numbers and tags. -/
def Args (D : Data) (c : Dev nD) : Prop :=
  Given D (arg m c main_arg0) (arg m c main_arg1) (arg m c main_arg2) (arg m c main_arg4) (arg m c main_arg5) (arg m c main_arg6)
    (arg m c main_arg7) (arg m c main_arg8)

variable {m} {D : Data} {c : Dev nD}

/-! ## The host operations before the launch -/

theorem padding : FloatOps.sitofp (F := Ideal) FTy.f32 0#32 = ((0 : ℝ) : EReal) := by
  show (((0#32 : BitVec 32).toInt : ℝ) : EReal) = _
  simp

theorem entry_wf (h : Args m D c) : Weight (V m c main_v12) D.wf := by
  intro i j
  unfold V
  after_reads_at
  by_cases hj : j.val < 17
  · rw [dif_pos ⟨hj, by omega⟩, lanes_lt _ j hj]; exact h.wf ⟨j.val, hj⟩ i
  · rw [dif_neg (fun h => hj h.1), lanes_ge _ j hj]; exact padding

theorem entry_wb (h : Args m D c) : Weight (V m c main_v14) D.wb := by
  intro i j
  unfold V
  after_reads_at
  by_cases hj : j.val < 17
  · rw [dif_pos ⟨hj, by omega⟩, lanes_lt _ j hj]; exact h.wb ⟨j.val, hj⟩ i
  · rw [dif_neg (fun h => hj h.1), lanes_ge _ j hj]; exact padding

theorem entry_bias (h : Args m D c) : RowOf (V m c main_v5) D.bias := by
  intro j
  unfold V
  after_reads_at
  by_cases hj : j.val < 17
  · rw [dif_pos hj, lanes_lt _ j hj]; exact h.bias ⟨j.val, hj⟩
  · rw [dif_neg hj, lanes_ge _ j hj]; exact padding

theorem entry_st (h : Args m D c) : RowOf (V m c main_v8) D.st := by
  intro j
  unfold V
  after_reads_at
  by_cases hj : j.val < 17
  · rw [dif_pos hj, lanes_lt _ j hj]; exact h.st ⟨j.val, hj⟩
  · rw [dif_neg hj, lanes_ge _ j hj]; exact padding

theorem entry_en (h : Args m D c) : RowOf (V m c main_v10) D.en := by
  intro j
  unfold V
  after_reads_at
  by_cases hj : j.val < 17
  · rw [dif_pos hj, lanes_lt _ j hj]; exact h.en ⟨j.val, hj⟩
  · rw [dif_neg hj, lanes_ge _ j hj]; exact padding

theorem entry_tr (h : Args m D c) : TransOf D.field (V m c main_v6) := by
  intro i j
  unfold V
  after_reads_at
  by_cases hi : i.val < 17
  · by_cases hj : j.val < 17
    · rw [dif_pos ⟨hi, hj⟩, dif_pos hi, lanes_lt _ j hj]; exact h.tr ⟨i.val, hi⟩ ⟨j.val, hj⟩
    · rw [dif_neg (fun h => hj h.2), dif_pos hi, lanes_ge _ j hj]; exact padding
  · rw [dif_neg (fun h => hi h.1), dif_neg hi]; exact padding

theorem entry_tag (h : Args m D c) (t : Fin 16) (b : Fin 128) (n : Fin 32) :
    (V m c main_v1 : IVec S16x128x32 32) (ix3 t b n) = BitVec.ofNat 32 (D.tag (32 * t.val + n.val) b).val := by
  unfold V
  after_reads_at
  refine (h.tag b ⟨t.val * 32 + n.val, by omega⟩).trans ?_
  exact congrArg (fun n => BitVec.ofNat 32 (D.tag n b).val) (show t.val * 32 + n.val = 32 * t.val + n.val by omega)

/-! ## The blocks -/

/-- Every window's block index at every grid point; the windows that are read ahead stop at the last block. -/
theorem idx : ∀ t : Fin cfg0.N, win0_0.index t = ![t.val, 0, 0] ∧ win0_1.index t = ![t.val, 0, 0]
    ∧ win0_2.index t = ![min (t.val + 1) 15, 0, 0] ∧ win0_3.index t = ![min (t.val + 1) 15, 0, 0] ∧ win0_4.index t = ![t.val, 0, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0, 0] :=
  (by decide +kernel : ∀ t : Fin grid0.N, _)

theorem points (t : Fin cfg0.N) : t.val < 16 := lt_of_lt_of_eq t.isLt (by decide +kernel)

theorem coord : ∀ t : Fin cfg0.N, (grid0.coords t 0).val = t.val := (by decide +kernel : ∀ t : Fin grid0.N, _)

variable (m c) in
theorem blk5 (t : Fin cfg0.N) : iblk m c 5 t = V m c main_v12 := by
  funext j; blk_simp [iblk]; exact congrArg (V m c main_v12) (by blk_ext [idx t])
variable (m c) in
theorem blk6 (t : Fin cfg0.N) : iblk m c 6 t = V m c main_v14 := by
  funext j; blk_simp [iblk]; exact congrArg (V m c main_v14) (by blk_ext [idx t])
variable (m c) in
theorem blk7 (t : Fin cfg0.N) : iblk m c 7 t = V m c main_v5 := by
  funext j; blk_simp [iblk]; exact congrArg (V m c main_v5) (by blk_ext [idx t])
variable (m c) in
theorem blk8 (t : Fin cfg0.N) : iblk m c 8 t = V m c main_v6 := by
  funext j; blk_simp [iblk]; exact congrArg (V m c main_v6) (by blk_ext [idx t])
variable (m c) in
theorem blk9 (t : Fin cfg0.N) : iblk m c 9 t = V m c main_v8 := by
  funext j; blk_simp [iblk]; exact congrArg (V m c main_v8) (by blk_ext [idx t])
variable (m c) in
theorem blk10 (t : Fin cfg0.N) : iblk m c 10 t = V m c main_v10 := by
  funext j; blk_simp [iblk]; exact congrArg (V m c main_v10) (by blk_ext [idx t])

theorem rows0 (h : Args m D c) (t : Fin cfg0.N) (k : ℕ) (hk : k < 32) :
    States (rowB (iblk m c 0 t) k) (D.hf (32 * t.val + k)) := by
  have ht := points t
  intro b j
  refine Eq.trans ?_ (h.hf ⟨32 * t.val + k, by omega⟩ b j)
  unfold rowB rowV
  blk_simp [iblk]
  refine (congrFun (V_main_arg0 m c) _).trans (congrArg (arg m c main_arg0) (funext fun a => Fin.ext ?_))
  match a with
  | 0 => blk_simp [idx t]; show t.val * 32 + k % 32 = 32 * t.val + k; omega
  | 1 => blk_simp [idx t]
  | 2 => blk_simp [idx t]

theorem rows1 (h : Args m D c) (t : Fin cfg0.N) (k : ℕ) (hk : k < 32) :
    States (rowB (iblk m c 1 t) k) (D.hb (32 * t.val + k)) := by
  have ht := points t
  intro b j
  refine Eq.trans ?_ (h.hb ⟨32 * t.val + k, by omega⟩ b j)
  unfold rowB rowV
  blk_simp [iblk]
  refine (congrFun (V_main_arg1 m c) _).trans (congrArg (arg m c main_arg1) (funext fun a => Fin.ext ?_))
  match a with
  | 0 => blk_simp [idx t]; show t.val * 32 + k % 32 = 32 * t.val + k; omega
  | 1 => blk_simp [idx t]
  | 2 => blk_simp [idx t]

theorem rows2 (h : Args m D c) (t : Fin cfg0.N) (k : ℕ) (hk : k < 32) :
    States (rowB (iblk m c 2 t) k) (D.hf (32 * (min (t.val + 1) 15) + k)) := by
  have ht := points t
  intro b j
  refine Eq.trans ?_ (h.hf ⟨32 * (min (t.val + 1) 15) + k, by omega⟩ b j)
  unfold rowB rowV
  blk_simp [iblk]
  refine (congrFun (V_main_arg0 m c) _).trans (congrArg (arg m c main_arg0) (funext fun a => Fin.ext ?_))
  match a with
  | 0 => blk_simp [idx t]; show (min (t.val + 1) 15) * 32 + k % 32 = 32 * (min (t.val + 1) 15) + k; omega
  | 1 => blk_simp [idx t]
  | 2 => blk_simp [idx t]

theorem rows3 (h : Args m D c) (t : Fin cfg0.N) (k : ℕ) (hk : k < 32) :
    States (rowB (iblk m c 3 t) k) (D.hb (32 * (min (t.val + 1) 15) + k)) := by
  have ht := points t
  intro b j
  refine Eq.trans ?_ (h.hb ⟨32 * (min (t.val + 1) 15) + k, by omega⟩ b j)
  unfold rowB rowV
  blk_simp [iblk]
  refine (congrFun (V_main_arg1 m c) _).trans (congrArg (arg m c main_arg1) (funext fun a => Fin.ext ?_))
  match a with
  | 0 => blk_simp [idx t]; show (min (t.val + 1) 15) * 32 + k % 32 = 32 * (min (t.val + 1) 15) + k; omega
  | 1 => blk_simp [idx t]
  | 2 => blk_simp [idx t]

theorem tags4 (h : Args m D c) (t : Fin cfg0.N) : Tags D.field (k0_pay14 (iblk m c 4 t)) (32 * t.val) := by
  have ht := points t
  intro n hn b
  have e : ∀ x4 : Vec Ideal S1x128x32 .i32, k0_pay14 (F := Ideal) x4 (ix2 b ⟨n, hn⟩) = x4 (ix3 0 b ⟨n, hn⟩) := fun x4 => by pointwise [k0_pay14]
  rw [e]
  refine Eq.trans ?_ (entry_tag h ⟨t.val, ht⟩ b ⟨n, hn⟩)
  blk_simp [iblk]
  exact congrArg (V m c main_v1) (by blk_ext [idx t])

/-! ## The carried buffers over the grid -/

/-- A buffer of emissions for the point after `t`; after the last point it holds the last block's again. -/
def Ahead (D : Data) (x : FVec Ideal S32x128x128 .f32) (t : ℕ) : Prop :=
  ∀ k, k < 32 → Emits D.field (rowF x k) (32 * min (t + 1) 15 + k)

theorem ahead (h : Args m D c) (t : Fin cfg0.N) {x : FVec Ideal S32x128x128 .f32}
    (hx : ∀ (r : Fin 32) (p q : Fin 128), x (ix3 r p q)
      = nextRow (iblk m c 5 t) (iblk m c 6 t) (iblk m c 7 t) (rowB (iblk m c 2 t)) (rowB (iblk m c 3 t)) r.val (ix3 0 p q)) :
    Ahead D x t.val := by
  intro k hk b j
  refine (hx ⟨k % 32, Nat.mod_lt _ (by decide)⟩ b j).trans ?_
  rw [show (⟨k % 32, Nat.mod_lt _ (by decide)⟩ : Fin 32).val = k from Nat.mod_eq_of_lt hk, blk5, blk6, blk7]
  exact next_inv (entry_wf h) (entry_wb h) (entry_bias h) (rows2 h t k hk) (rows3 h t k hk) b j

/-- What the carried buffers hold after point `t`: the weights, the logarithms, the score and the last tags at its last time, the
emissions of the point after, and the transitions' exponentials. -/
def Held (D : Data) (t : ℕ) (o : Vec Ideal S1x1x128 .f32 × Vec Ideal S128x128 .f32 × Vec Ideal S128x128 .f32 × Vec Ideal S128x128 .f32
    × Vec Ideal S128x1 .f32 × Vec Ideal S32x128x128 .f32 × Vec Ideal S128x128 .f32) : Prop :=
  Carried D.field o.2.1 o.2.2.1 o.2.2.2.1 o.2.2.2.2.1 (32 * t + 31) ∧ Ahead D o.2.2.2.2.2.1 t ∧ ExpTrans D.field o.2.2.2.2.2.2

theorem held_A (h : Args m D c) (t : Fin cfg0.N) (h0 : t.val % 16 = 0) (h1 : ¬t.val % 16 = 15) :
    Held D t.val (outsAt0 m c t.val t.isLt) := by
  have ht := points t
  have hz : t.val = 0 := by omega
  rw [outsAt0_A m c t h0 h1]
  dsimp only [Held]
  rw [weights_A, score_A, hot_A, logs_A, trans_A, blk8]
  have hT : ExpTrans D.field (k0_pay3 (V m c main_v6)) := exptrans_inv (entry_tr h)
  have he : ∀ k, k < 32 → Emits D.field (rowF (firstE (iblk m c 0 t) (iblk m c 1 t) (iblk m c 5 t) (iblk m c 6 t) (iblk m c 7 t)) k) k := by
    intro k hk
    have r0 := rows0 h t k hk
    have r1 := rows1 h t k hk
    rw [hz, Nat.mul_zero, Nat.zero_add] at r0 r1
    rw [blk5, blk6, blk7]
    exact first_inv (entry_wf h) (entry_wb h) (entry_bias h) r0 r1
  refine ⟨?_, ahead h t fun r p q => next_A .., hT⟩
  rw [hz]
  have ht4 := tags4 h t
  rw [hz, Nat.mul_zero] at ht4
  rw [blk9]
  exact point_zero ((coord t).trans hz) hT (entry_tr h) (entry_st h) ht4 he (fun n hn => exps_inv (he n hn))
    (fun b j => by pointwise [k0_pay5]) (fun b => by pointwise [k0_pay7])

theorem next_carried (h : Args m D c) (t : Fin cfg0.N) (h0 : ¬t.val % 16 = 0)
    {b a p etr : Mat} {l : FVec Ideal S128x1 .f32} {em : FVec Ideal S32x128x128 .f32}
    (hc : Carried D.field b a p l (32 * (t.val - 1) + 31)) (ha : Ahead D em (t.val - 1)) (hT : ExpTrans D.field etr) :
    Carried D.field (pointW (grid0.coords t) etr (iblk m c 9 t) b (rowF (k0_pay13 em)))
      (pointS (grid0.coords t) (iblk m c 8 t) (iblk m c 9 t) (k0_pay14 (iblk m c 4 t)) a p (rowF em))
      (oneHot (k0_pay14 (iblk m c 4 t)) 31) (pointL (grid0.coords t) etr (iblk m c 9 t) b (rowF (k0_pay13 em)) l) (32 * t.val + 31) := by
  have ht := points t
  have hs : 32 * (t.val - 1) + 31 + 1 = 32 * t.val := by omega
  have he : ∀ k, k < 32 → Emits D.field (rowF em k) (32 * (t.val - 1) + 31 + 1 + k) := fun k hk => by
    have := ha k hk
    rwa [show 32 * min (t.val - 1 + 1) 15 + k = 32 * (t.val - 1) + 31 + 1 + k by omega] at this
  have ht4 := tags4 h t
  rw [← hs] at ht4 ⊢
  rw [blk8]
  exact point_next (by rw [coord]; omega) (by rw [coord]; exact ht) hT (entry_tr h) ht4 he (fun n hn => exps_inv (he n hn)) hc

theorem held_next (h : Args m D c) (t : Fin cfg0.N) (h0 : ¬t.val % 16 = 0)
    (ih : Held D (t.val - 1) (outsAt0 m c (t.val - 1) (Nat.lt_of_le_of_lt (Nat.sub_le _ _) t.isLt))) :
    Held D t.val (outsAt0 m c t.val t.isLt) := by
  obtain ⟨hc, ha, hT⟩ := ih
  by_cases h1 : t.val % 16 = 15
  · rw [outsAt0_C m c t h0 h1]
    dsimp only [Held]
    rw [weights_C, score_C, hot_C, logs_C]
    exact ⟨next_carried h t h0 hc ha hT, ahead h t fun r p q => next_C .., hT⟩
  · rw [outsAt0_B m c t h0 h1]
    dsimp only [Held]
    rw [weights_B, score_B, hot_B, logs_B]
    exact ⟨next_carried h t h0 hc ha hT, ahead h t fun r p q => next_B .., hT⟩

theorem held (h : Args m D c) : ∀ (n : ℕ) (hn : n < cfg0.N), Held D n (outsAt0 m c n hn)
  | 0, hn => held_A h ⟨0, hn⟩ (Nat.zero_mod _) (by show ¬0 % 16 = 15; decide)
  | n + 1, hn => by
    have h16 := points ⟨n + 1, hn⟩
    exact held_next h ⟨n + 1, hn⟩ (by show ¬ (n + 1) % 16 = 0; have : n + 1 < 16 := h16; omega) (held h n (Nat.lt_of_succ_lt hn))

/-- The last point writes the sum of the log-likelihoods. -/
theorem written (h : Args m D c) (t : Fin cfg0.N) (h1 : t.val % 16 = 15) (q : Fin 128) :
    (outsAt0 m c t.val t.isLt).1 (ix3 0 0 q) = ((∑ b, D.field.llh b : ℝ) : EReal) := by
  have ht := points t
  have hz : t.val = 15 := by omega
  obtain ⟨hc, ha, hT⟩ := held h (t.val - 1) (Nat.lt_of_le_of_lt (Nat.sub_le _ _) t.isLt)
  have hn := next_carried h t (by omega) hc ha hT
  rw [outsAt0_C m c t (by omega) h1]
  dsimp only
  rw [out_C]
  rw [show 32 * t.val + 31 = 511 by omega] at hn
  rw [blk10]
  exact total (entry_en h) hn q

/-- The result array holds the sum at every lane. -/
theorem final (h : Args m D c) : (dats m 0 c).arrAt 11 cfg0.N = fun _ : S1x1x128.Idx => ((∑ b, D.field.llh b : ℝ) : EReal) := by
  refine (dats m 0 c).arrAt_eq_of_covers 11 _ (by decide +kernel) fun t hf y => ?_
  have h1 : t.val % 16 = 15 := (by decide +kernel : ∀ t : Fin cfg0.N, (cfg0.win 11).flush t = true → t.val % 16 = 15) t hf
  blk_simp
  rw [after0_11]
  idx_vars y
  exact (congrArg (outsAt0 m c t.val t.isLt).1 (by blk_ext)).trans (written h t h1 y2)

theorem ofBits_128 : Ideal.ofBits FTy.f32 1124073472#32 = ((128 : ℝ) : EReal) := by
  simp [Ideal.ofBits, Ideal.ieee, -EReal.coe_mul]; norm_num

/-- The mean with its sign turned. -/
theorem mean_neg (x : ℝ) : Ideal.div (-(x : EReal)) (Ideal.ofBits FTy.f32 1124073472#32) = ((-(x / 128) : ℝ) : EReal) := by
  rw [ofBits_128, Ideal.div_coe (by norm_num), ← EReal.coe_neg, ← EReal.coe_mul]
  exact congrArg Real.toEReal (by ring)

/-- What the host operations after the launch make of it. -/
theorem result (h : Args m D c) : Pipeline.afterTail₀ cfgs (dats m) 0 (V0 m) [hostOps1] c main_v19 = fun _ : S_.Idx => ((D.field.loss : ℝ) : EReal) := by
  unfold Pipeline.afterTail₀
  have hw := ((dats m 0 c).withArrays_arrAt sharedIn0 (V0 m c) (A_eq m c) 11).trans (final h)
  funext j
  generalize Pipeline.withArrays _ _ _ _ = E at hw ⊢
  after_reads_at
  have e : E (Proc.devRef .tc main_v15) (ix3 0 0 0) = ((∑ b, D.field.llh b : ℝ) : EReal) := congrFun hw _
  refine (congrArg (fun x : EReal => Ideal.div (-x) (Ideal.ofBits FTy.f32 1124073472#32)) e).trans ?_
  exact mean_neg _

/-- The kernel's run: the mean negative log-likelihood, and the arguments as they were. -/
theorem run_loss (g : Dev nD → PrngReg) (D : Dev nD → Data) (h : ∀ c, Args m (D c) c) :
    θ_run defs (onTc (τ := τ) (main (F := Ideal))) ⟨m, fun _ => 0, g⟩ (fun r => ∀ c : Dev nD,
      r.2.mem ((c.tc : Thread nD τ).loc main_v19) = (fun _ : S_.Idx => (((D c).field.loss : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r hr c =>
    have rest (b : Ref sig .tc) (hb : b ∈ Pipeline.restRefs sig spec0) := (hr c).2 b hb
    have array (w : Fin cfg0.W) (hw : (cfg0.win w).isOut = false) := ((hr c).1 w).trans (((dats m 0 c).arrAt_in w hw _).trans (A_eq m c w))
    ⟨(rest main_v19 (Pipeline.mem_restRefs_of main_v19 (by decide) (by decide))).trans (result (h c)),
      (array 2 rfl).trans (V_main_arg0 m c), (array 3 rfl).trans (V_main_arg1 m c),
      (rest main_arg2 (Pipeline.mem_restRefs_of main_arg2 (by decide) (by decide))).trans (W_main_arg2 m (dats m) c),
      (rest main_arg3 (Pipeline.mem_restRefs_of main_arg3 (by decide) (by decide))).trans (W_main_arg3 m (dats m) c),
      (rest main_arg4 (Pipeline.mem_restRefs_of main_arg4 (by decide) (by decide))).trans (W_main_arg4 m (dats m) c),
      (rest main_arg5 (Pipeline.mem_restRefs_of main_arg5 (by decide) (by decide))).trans (W_main_arg5 m (dats m) c),
      (rest main_arg6 (Pipeline.mem_restRefs_of main_arg6 (by decide) (by decide))).trans (W_main_arg6 m (dats m) c),
      (rest main_arg7 (Pipeline.mem_restRefs_of main_arg7 (by decide) (by decide))).trans (W_main_arg7 m (dats m) c),
      (rest main_arg8 (Pipeline.mem_restRefs_of main_arg8 (by decide) (by decide))).trans (W_main_arg8 m (dats m) c)⟩)
    (run_main m g)

end Cert.Kernel2Ideal.Val
-- ==== Proof.CrfPre.lean ====
module

public import proofs.«01_k».proof.Pre_in_range
public import proofs.«01_k».proof.Proof.CrfReal
public import Idealize.ShloMosaic.Lib.ReduceAll

/-! What the precondition says: the numbers are real and the tags name states, so that the arguments are those of a field; and no
time is masked. -/

@[expose] public section

set_option maxRecDepth 16384

noncomputable section

namespace Cert.Pre_in_range.Read

open Idealize.ShloMosaic Cert.Pre_in_range Cert.Crf
open Cert.Pre_in_range.Facts

variable [Facts]

theorem both {s : Shape} {x y : IVec s 1} {j : s.Idx} (h : andi x y j = 1#1) : x j = 1#1 ∧ y j = 1#1 := by
  have e : (x j) &&& (y j) = 1#1 := h
  revert e
  generalize x j = a; generalize y j = b
  revert a b; decide

theorem bit {p : Prop} [Decidable p] (h : BitVec.ofBool (decide p) = 1#1) : p := by
  by_contra hp
  simp [hp] at h

/-- An extended real below infinity in size is a real number. -/
theorem real_of_lt {x : EReal} (h : Ideal.cmp CmpFPredicate.olt (max x (-x)) (Ideal.ofBits FTy.f32 2139095040#32) = 1#1) :
    x = ((x.toReal : ℝ) : EReal) := by
  have e : Ideal.ofBits FTy.f32 2139095040#32 = ⊤ := by simp [Ideal.ofBits, Ideal.ieee]
  rw [e] at h
  have l : max x (-x) < ⊤ := bit h
  refine (EReal.coe_toReal ?_ ?_).symm
  · rintro rfl; simp at l
  · rintro rfl; simp at l

/-- Where the finiteness of every element was asked for, every element is real. -/
theorem all_real {s : Shape} {axes : List (Fin s.rank)} {x : FVec Ideal s .f32} {b : S_.BroadcastsInDim s (![] : Fin 0 → Fin s.rank)} {r : s.ReducesTo axes S_}
    {j : S_.Idx} (h : Host.reduce IntOp.andi (cmpf .olt (Host.absf x) (broadcastInDim s ![] b (constant (F := Ideal) S_ .f32 0x7F800000#32)))
      (constantI S_ 1 1#1) r h_S_ j = 1#1) (i : s.Idx) : (x i : EReal) = ((EReal.toReal (x i) : ℝ) : EReal) :=
  real_of_lt (x := x i) (Host.reduce_andi_all _ _ _ _ j h i)

/-- A word between 0 and 17 is a state's. -/
theorem word_of_range {x : BitVec 32} (h0 : (0#32).toInt ≤ x.toInt) (h1 : x.toInt < (17#32).toInt) : x.toNat < 17 ∧ x = BitVec.ofNat 32 x.toNat := by
  refine ⟨?_, by simp⟩
  have e := BitVec.toInt_eq_toNat_cond x
  have z : (0#32).toInt = 0 := by decide
  have y : (17#32).toInt = 17 := by decide
  have := x.isLt
  split at e <;> omega

/-- The field of arguments within the precondition. -/
def data (a0 a1 : S512x128x128.Idx → EReal) (a2 : S128x512.Idx → BitVec 32) (a4 : S17x256.Idx → EReal) (a5 a6 a7 : S17.Idx → EReal)
    (a8 : S17x17.Idx → EReal) : Data where
  hf t b x := (a0 (ix3 ⟨t % 512, Nat.mod_lt _ (by decide)⟩ b x)).toReal
  hb t b x := (a1 (ix3 ⟨t % 512, Nat.mod_lt _ (by decide)⟩ b x)).toReal
  wf k x := (a4 (ix2 k ⟨x.val, by omega⟩)).toReal
  wb k x := (a4 (ix2 k ⟨128 + x.val, by omega⟩)).toReal
  bias k := (a5 (ix1 k)).toReal
  st k := (a6 (ix1 k)).toReal
  en k := (a7 (ix1 k)).toReal
  tr i k := (a8 (ix2 i k)).toReal
  tag t b := ⟨(a2 (ix2 b ⟨t % 512, Nat.mod_lt _ (by decide)⟩)).toNat % 17, Nat.mod_lt _ (by decide)⟩

/-- Arguments within the precondition hold their field, and mask no time. -/
theorem given {a0 a1 : FVec Ideal S512x128x128 .bf16} {a2 : IVec S128x512 32} {a3 : IVec S128x512 1} {a4 : FVec Ideal S17x256 .f32}
    {a5 a6 a7 : FVec Ideal S17 .f32} {a8 : FVec Ideal S17x17 .f32} (h : fn (F := Ideal) a0 a1 a2 a3 a4 a5 a6 a7 a8 = fun _ => 1#1) :
    Given (data a0 a1 a2 a4 a5 a6 a7 a8) a0 a1 a2 a4 a5 a6 a7 a8 ∧ ∀ j, a3 j = 1#1 := by
  have h := congrFun h ix0
  unfold fn fn_part1 fn_part2 at h
  obtain ⟨h, p8⟩ := both h
  obtain ⟨h, p7⟩ := both h
  obtain ⟨h, p6⟩ := both h
  obtain ⟨h, p5⟩ := both h
  obtain ⟨h, p4⟩ := both h
  obtain ⟨h, p1⟩ := both h
  obtain ⟨h, p0⟩ := both h
  obtain ⟨p2, p3⟩ := both h
  have q3 := Host.reduce_andi_all _ _ _ _ _ p3
  have q2 := Host.reduce_andi_all _ _ _ _ _ p2
  refine ⟨⟨?_, ?_, ?_, ?_, ?_, ?_, ?_, ?_, ?_⟩, q3⟩
  · intro t b x
    have e := all_real p0 (ix3 t b x)
    have n : t.val % 512 = t.val := Nat.mod_eq_of_lt t.isLt
    simp only [data, n]
    exact e
  · intro t b x
    have e := all_real p1 (ix3 t b x)
    have n : t.val % 512 = t.val := Nat.mod_eq_of_lt t.isLt
    simp only [data, n]
    exact e
  · intro b t
    obtain ⟨l, r⟩ := both (q2 (ix2 b t))
    obtain ⟨w, e⟩ := word_of_range ((IntOp.cmpi_sge (x := a2 (ix2 b t)) (y := 0#32)).1 l) ((IntOp.cmpi_slt (x := a2 (ix2 b t)) (y := 17#32)).1 r)
    have n : t.val % 512 = t.val := Nat.mod_eq_of_lt t.isLt
    simp only [data, n, Nat.mod_eq_of_lt w]
    exact e
  · intro k x; exact all_real p4 _
  · intro k x; exact all_real p4 _
  · intro k; exact all_real p5 _
  · intro k; exact all_real p6 _
  · intro k; exact all_real p7 _
  · intro i k; exact all_real p8 _

end Cert.Pre_in_range.Read
-- ==== Proof.CrfEqual.lean ====
module

public import proofs.«01_k».proof.Proof.CrfEntry
public import proofs.«01_k».proof.Proof.CrfArray
public import proofs.«01_k».proof.Proof.CrfPre
public import proofs.«01_k».proof.Proof.Gen.Pre_in_range
public import proofs.«01_k».proof.Defs

/-! The reference's loss, and the equation: kernel and reference return the mean negative log-likelihood of the field that
the arguments hold. -/

@[expose] public section

set_option maxRecDepth 16384

noncomputable section

namespace Cert.Reference2Ideal.Val

open Idealize.ShloMosaic Idealize.ShloMosaic.TcCoe Idealize.SL.Sem Idealize.ShloMosaic.StableHlo
open Cert.Reference2Ideal Cert.Reference2Ideal.Gen Cert.Reference2Ideal.Value Cert.Crf

/-- The largest last log sum of every sequence. -/
abbrev tops (z : FVec Ideal S128x17 .f32) : FVec Ideal S128 .f32 :=
  Host.reduce FloatOps.maximumf z (constant (F := Ideal) S_ .f32 0xFF800000#32) reducesTo_S128x17_S128_d1 h_S_

theorem last_top (z : FVec Ideal S128x17 .f32) (b : Fin 128) :
    (tops z (ix1 b) : EReal) = (Finset.univ : Finset (Fin 17)).fold max (Ideal.ofBits .f32 4286578688#32) fun j => (z (ix2 b j) : EReal) := by
  pointwise []

/-- The last log sums with the end weights. -/
abbrev ended (a : FVec Ideal S128x17 .f32) (w : FVec Ideal S17 .f32) : FVec Ideal S128x17 .f32 :=
  addf a (broadcastInDim S128x17 ![0, 1] bcast_S1x17_S128x17_0_1 (broadcastInDim S1x17 ![1] bcast_S17_S1x17_1 w))

theorem ended_at (a : FVec Ideal S128x17 .f32) (w : FVec Ideal S17 .f32) (b : Fin 128) (j : Fin 17) :
    (ended a w (ix2 b j) : EReal) = (a (ix2 b j) : EReal) + (w (ix1 j) : EReal) := by
  pointwise []

/-- The mean of the scores less the log partition sums, with its sign turned. -/
theorem tail_at (s g : FVec Ideal S128 .f32) (z : FVec Ideal S128x17 .f32) (v : FVec Ideal S128 .f32) (i : S_.Idx) :
    (Host.negf (Host.divf (Host.reduceAdd (subf (addf s g) (addf (Host.log (Host.reduceAdd (Host.exp (subf z
        (broadcastInDim S128x17 ![0, 1] bcast_S128x1_S128x17_0_1 (broadcastInDim S128x1 ![0] bcast_S128_S128x1_0 v))))
        (constant S_ .f32 0x00000000#32) reducesTo_S128x17_S128_d1 h_S_))
      (shapeCast S128 (broadcastInDim S128x1 ![0] bcast_S128_S128x1_0 v) shapeCasts_S128x1_S128)))
      (constant S_ .f32 0x00000000#32) reducesTo_S128_S_d0 h_S_) (constant S_ .f32 0x43000000#32)) i : EReal)
      = -Ideal.div (∑ b, (((s (ix1 b) : EReal) + (g (ix1 b) : EReal))
          - (Ideal.log (∑ j, Ideal.exp ((z (ix2 b j) : EReal) - (v (ix1 b) : EReal))) + (v (ix1 b) : EReal)))) (Ideal.ofBits FTy.f32 1124073472#32) := by
  pointwise []

theorem mean_real (x : ℝ) : -Ideal.div (x : EReal) (Ideal.ofBits FTy.f32 1124073472#32) = ((-(x / 128) : ℝ) : EReal) := by
  rw [Cert.Kernel2Ideal.Val.ofBits_128, Ideal.div_coe (by norm_num), ← EReal.coe_mul, ← EReal.coe_neg]
  exact congrArg Real.toEReal (by ring)

/-- What is made of what the scan ends with. -/
theorem out_loss {E : Valuation τ sig (Elt Ideal)} {P : Field} (u : Upto E P 511)
    (w : ∀ j, (E (Proc.devRef .tc main_arg7) (ix1 j) : EReal) = ((P.en j : ℝ) : EReal)) :
    out_main_v77 E = fun _ : S_.Idx => ((P.loss : ℝ) : EReal) := by
  funext i
  unfold out_main_v77
  refine (tail_at (scA E) _ (ended (alA E) (E (Proc.devRef .tc main_arg7))) _ i).trans ?_
  have one : ∀ b : Fin 128, ((scA E (ix1 b) : EReal) + (Host.gather gather_S17_S128x1_S128_n_0_n_n_0_1_1 (E (Proc.devRef .tc main_arg7) : S17.Idx → EReal) (column (pvA E) 17#32) (ix1 b) : EReal))
      - (Ideal.log (∑ j, Ideal.exp ((ended (alA E) (E (Proc.devRef .tc main_arg7)) (ix2 b j) : EReal)
          - (tops (ended (alA E) (E (Proc.devRef .tc main_arg7))) (ix1 b) : EReal)))
        + (tops (ended (alA E) (E (Proc.devRef .tc main_arg7))) (ix1 b) : EReal))
      = ((P.llh b : ℝ) : EReal) := by
    intro b
    have z := lse_real (fun j => P.alpha 511 b j + P.en j) (fun j => (ended (alA E) (E (Proc.devRef .tc main_arg7)) (ix2 b j) : EReal))
      (fun j => (ended_at _ _ b j).trans ((congrArg₂ (· + ·) (u.al b j) (w j)).trans (EReal.coe_add _ _).symm)) _ (last_top _ b)
    have a := (entry_at (x := E (Proc.devRef .tc main_arg7)) (u.pv b)).trans (w _)
    rw [z, a, u.sc b, ← EReal.coe_add, ← EReal.coe_sub]
    rfl
  refine (congrArg (fun x : EReal => -Ideal.div x (Ideal.ofBits FTy.f32 1124073472#32)) ((Finset.sum_congr rfl fun b _ => one b).trans (coe_sum _))).trans ?_
  exact mean_real _

/-- The reference's result. -/
theorem ref_loss {m : (ℓ : Loc nD τ sig) → Buf (Elt Ideal) ℓ} {c : Dev nD} {D : Data} (h : Args m c D) :
    out_main_v77 (STEP^[511] (entryContents preI m c)) = fun _ : S_.Idx => ((D.field.loss : ℝ) : EReal) := by
  obtain ⟨s, u⟩ := entry h
  refine out_loss (scan s u 511 le_rfl).2 fun j => ?_
  rw [iter_main_arg7]
  exact h.given.en j

end Cert.Reference2Ideal.Val

namespace Cert.Equal2

open Idealize.ShloMosaic Idealize.ShloMosaic.TcCoe Idealize.SL.Sem
open Cert.Crf

/-- The reference's arguments and result are all it changes or keeps, and it has no semaphore. -/
theorem frameR : Cert.quiescent_Reference2Ideal := fun m g _ =>
  (θ_run Cert.Reference2Ideal.defs _ _).mono (fun r h => ⟨fun c => (h c).2,
      Idealize.ShloMosaic.sem_eq_zero_of_no_sems (by decide) r.2⟩)
    (Cert.Reference2Ideal.Value.run (F := Ideal) m g)

theorem frameR_pre : Cert.quiescent_Reference2Ideal_pre_in_range := fun m g _ => frameR m g trivial

theorem algebraic : Cert.algebraic_Kernel2Ideal_Reference2Ideal_pre_in_range := by
  intro m g m' g' hpre hagree
  have hk := fun c => Cert.Pre_in_range.Read.given (hpre c)
  refine ⟨_, Cert.Kernel2Ideal.Val.run_loss (m := m) g _ fun c => (hk c).1, ?_⟩
  refine (θ_run Cert.Reference2Ideal.defs _ _).mono (fun r h c => ?_) (Cert.Reference2Ideal.Value.run (F := Ideal) m' g')
  obtain ⟨a0, a1, a2, a3, a4, a5, a6, a7, a8⟩ := hagree c
  obtain ⟨h0, hr⟩ := h c
  refine ⟨h0.trans (Cert.Reference2Ideal.Val.ref_loss ⟨?_, ?_⟩), hr⟩
  · dsimp only [Cert.Reference2Ideal.Val.arg]
    rw [a0, a1, a2, a4, a5, a6, a7, a8]
    exact (hk c).1
  · dsimp only [Cert.Reference2Ideal.Val.arg]
    rw [a3]
    exact (hk c).2

end Cert.Equal2
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Equal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_in_range
public import proofs.«01_k».proof.Proof.Gen.Reference2Ideal.Run
public import proofs.«01_k».proof.Proof.CrfEqual
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Pre_in_range.Gen.facts,
  fun m ρ _ => Cert.Kernel.Gen.frame m ρ, fun m ρ _ => Cert.KernelIdeal.Gen.frame m ρ, Cert.Equal.frameR,
  fun m ρ _ => Cert.Kernel2.Gen.frame m ρ, fun m ρ _ => Cert.Kernel2Ideal.Gen.frame m ρ,
  fun m ρ _ => Cert.Kernel2Ideal.Gen.frame m ρ, Cert.Equal2.frameR, Cert.Equal2.frameR_pre,
  trivial, Cert.Equal.algebraic, trivial, Cert.Equal2.algebraic⟩

end Cert.Proof

end
